-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_VersionIdeal (m : (ℓ : Loc Cert.VersionIdeal.nD Cert.VersionIdeal.τ Cert.VersionIdeal.sig) → Buf (Elt Ideal) ℓ) : Prop :=
  True

def Pre_VersionIdeal_finite [hPre_finite : Cert.Pre_finite.Facts] (m : (ℓ : Loc Cert.VersionIdeal.nD Cert.VersionIdeal.τ Cert.VersionIdeal.sig) → Buf (Elt Ideal) ℓ) : Prop :=
  ∀ c : Dev Cert.VersionIdeal.nD,
    (Cert.Pre_finite.fn (F := Ideal) (m ((c.tc : Thread Cert.VersionIdeal.nD Cert.VersionIdeal.τ).loc Cert.VersionIdeal.main_arg0)) (m ((c.tc : Thread Cert.VersionIdeal.nD Cert.VersionIdeal.τ).loc Cert.VersionIdeal.main_arg1)) (m ((c.tc : Thread Cert.VersionIdeal.nD Cert.VersionIdeal.τ).loc Cert.VersionIdeal.main_arg2)) (m ((c.tc : Thread Cert.VersionIdeal.nD Cert.VersionIdeal.τ).loc Cert.VersionIdeal.main_arg3)) (m ((c.tc : Thread Cert.VersionIdeal.nD Cert.VersionIdeal.τ).loc Cert.VersionIdeal.main_arg4)) (m ((c.tc : Thread Cert.VersionIdeal.nD Cert.VersionIdeal.τ).loc Cert.VersionIdeal.main_arg5)) (m ((c.tc : Thread Cert.VersionIdeal.nD Cert.VersionIdeal.τ).loc Cert.VersionIdeal.main_arg6)) (m ((c.tc : Thread Cert.VersionIdeal.nD Cert.VersionIdeal.τ).loc Cert.VersionIdeal.main_arg7)) (m ((c.tc : Thread Cert.VersionIdeal.nD Cert.VersionIdeal.τ).loc Cert.VersionIdeal.main_arg8))).1 = (fun _ => 1#1)
    ∧ (Cert.Pre_finite.fn (F := Ideal) (m ((c.tc : Thread Cert.VersionIdeal.nD Cert.VersionIdeal.τ).loc Cert.VersionIdeal.main_arg0)) (m ((c.tc : Thread Cert.VersionIdeal.nD Cert.VersionIdeal.τ).loc Cert.VersionIdeal.main_arg1)) (m ((c.tc : Thread Cert.VersionIdeal.nD Cert.VersionIdeal.τ).loc Cert.VersionIdeal.main_arg2)) (m ((c.tc : Thread Cert.VersionIdeal.nD Cert.VersionIdeal.τ).loc Cert.VersionIdeal.main_arg3)) (m ((c.tc : Thread Cert.VersionIdeal.nD Cert.VersionIdeal.τ).loc Cert.VersionIdeal.main_arg4)) (m ((c.tc : Thread Cert.VersionIdeal.nD Cert.VersionIdeal.τ).loc Cert.VersionIdeal.main_arg5)) (m ((c.tc : Thread Cert.VersionIdeal.nD Cert.VersionIdeal.τ).loc Cert.VersionIdeal.main_arg6)) (m ((c.tc : Thread Cert.VersionIdeal.nD Cert.VersionIdeal.τ).loc Cert.VersionIdeal.main_arg7)) (m ((c.tc : Thread Cert.VersionIdeal.nD Cert.VersionIdeal.τ).loc Cert.VersionIdeal.main_arg8))).2.1 = (fun _ => 1#1)
    ∧ (Cert.Pre_finite.fn (F := Ideal) (m ((c.tc : Thread Cert.VersionIdeal.nD Cert.VersionIdeal.τ).loc Cert.VersionIdeal.main_arg0)) (m ((c.tc : Thread Cert.VersionIdeal.nD Cert.VersionIdeal.τ).loc Cert.VersionIdeal.main_arg1)) (m ((c.tc : Thread Cert.VersionIdeal.nD Cert.VersionIdeal.τ).loc Cert.VersionIdeal.main_arg2)) (m ((c.tc : Thread Cert.VersionIdeal.nD Cert.VersionIdeal.τ).loc Cert.VersionIdeal.main_arg3)) (m ((c.tc : Thread Cert.VersionIdeal.nD Cert.VersionIdeal.τ).loc Cert.VersionIdeal.main_arg4)) (m ((c.tc : Thread Cert.VersionIdeal.nD Cert.VersionIdeal.τ).loc Cert.VersionIdeal.main_arg5)) (m ((c.tc : Thread Cert.VersionIdeal.nD Cert.VersionIdeal.τ).loc Cert.VersionIdeal.main_arg6)) (m ((c.tc : Thread Cert.VersionIdeal.nD Cert.VersionIdeal.τ).loc Cert.VersionIdeal.main_arg7)) (m ((c.tc : Thread Cert.VersionIdeal.nD Cert.VersionIdeal.τ).loc Cert.VersionIdeal.main_arg8))).2.2.1 = (fun _ => 1#1)
    ∧ (Cert.Pre_finite.fn (F := Ideal) (m ((c.tc : Thread Cert.VersionIdeal.nD Cert.VersionIdeal.τ).loc Cert.VersionIdeal.main_arg0)) (m ((c.tc : Thread Cert.VersionIdeal.nD Cert.VersionIdeal.τ).loc Cert.VersionIdeal.main_arg1)) (m ((c.tc : Thread Cert.VersionIdeal.nD Cert.VersionIdeal.τ).loc Cert.VersionIdeal.main_arg2)) (m ((c.tc : Thread Cert.VersionIdeal.nD Cert.VersionIdeal.τ).loc Cert.VersionIdeal.main_arg3)) (m ((c.tc : Thread Cert.VersionIdeal.nD Cert.VersionIdeal.τ).loc Cert.VersionIdeal.main_arg4)) (m ((c.tc : Thread Cert.VersionIdeal.nD Cert.VersionIdeal.τ).loc Cert.VersionIdeal.main_arg5)) (m ((c.tc : Thread Cert.VersionIdeal.nD Cert.VersionIdeal.τ).loc Cert.VersionIdeal.main_arg6)) (m ((c.tc : Thread Cert.VersionIdeal.nD Cert.VersionIdeal.τ).loc Cert.VersionIdeal.main_arg7)) (m ((c.tc : Thread Cert.VersionIdeal.nD Cert.VersionIdeal.τ).loc Cert.VersionIdeal.main_arg8))).2.2.2.1 = (fun _ => 1#1)
    ∧ (Cert.Pre_finite.fn (F := Ideal) (m ((c.tc : Thread Cert.VersionIdeal.nD Cert.VersionIdeal.τ).loc Cert.VersionIdeal.main_arg0)) (m ((c.tc : Thread Cert.VersionIdeal.nD Cert.VersionIdeal.τ).loc Cert.VersionIdeal.main_arg1)) (m ((c.tc : Thread Cert.VersionIdeal.nD Cert.VersionIdeal.τ).loc Cert.VersionIdeal.main_arg2)) (m ((c.tc : Thread Cert.VersionIdeal.nD Cert.VersionIdeal.τ).loc Cert.VersionIdeal.main_arg3)) (m ((c.tc : Thread Cert.VersionIdeal.nD Cert.VersionIdeal.τ).loc Cert.VersionIdeal.main_arg4)) (m ((c.tc : Thread Cert.VersionIdeal.nD Cert.VersionIdeal.τ).loc Cert.VersionIdeal.main_arg5)) (m ((c.tc : Thread Cert.VersionIdeal.nD Cert.VersionIdeal.τ).loc Cert.VersionIdeal.main_arg6)) (m ((c.tc : Thread Cert.VersionIdeal.nD Cert.VersionIdeal.τ).loc Cert.VersionIdeal.main_arg7)) (m ((c.tc : Thread Cert.VersionIdeal.nD Cert.VersionIdeal.τ).loc Cert.VersionIdeal.main_arg8))).2.2.2.2.1 = (fun _ => 1#1)
    ∧ (Cert.Pre_finite.fn (F := Ideal) (m ((c.tc : Thread Cert.VersionIdeal.nD Cert.VersionIdeal.τ).loc Cert.VersionIdeal.main_arg0)) (m ((c.tc : Thread Cert.VersionIdeal.nD Cert.VersionIdeal.τ).loc Cert.VersionIdeal.main_arg1)) (m ((c.tc : Thread Cert.VersionIdeal.nD Cert.VersionIdeal.τ).loc Cert.VersionIdeal.main_arg2)) (m ((c.tc : Thread Cert.VersionIdeal.nD Cert.VersionIdeal.τ).loc Cert.VersionIdeal.main_arg3)) (m ((c.tc : Thread Cert.VersionIdeal.nD Cert.VersionIdeal.τ).loc Cert.VersionIdeal.main_arg4)) (m ((c.tc : Thread Cert.VersionIdeal.nD Cert.VersionIdeal.τ).loc Cert.VersionIdeal.main_arg5)) (m ((c.tc : Thread Cert.VersionIdeal.nD Cert.VersionIdeal.τ).loc Cert.VersionIdeal.main_arg6)) (m ((c.tc : Thread Cert.VersionIdeal.nD Cert.VersionIdeal.τ).loc Cert.VersionIdeal.main_arg7)) (m ((c.tc : Thread Cert.VersionIdeal.nD Cert.VersionIdeal.τ).loc Cert.VersionIdeal.main_arg8))).2.2.2.2.2.1 = (fun _ => 1#1)
    ∧ (Cert.Pre_finite.fn (F := Ideal) (m ((c.tc : Thread Cert.VersionIdeal.nD Cert.VersionIdeal.τ).loc Cert.VersionIdeal.main_arg0)) (m ((c.tc : Thread Cert.VersionIdeal.nD Cert.VersionIdeal.τ).loc Cert.VersionIdeal.main_arg1)) (m ((c.tc : Thread Cert.VersionIdeal.nD Cert.VersionIdeal.τ).loc Cert.VersionIdeal.main_arg2)) (m ((c.tc : Thread Cert.VersionIdeal.nD Cert.VersionIdeal.τ).loc Cert.VersionIdeal.main_arg3)) (m ((c.tc : Thread Cert.VersionIdeal.nD Cert.VersionIdeal.τ).loc Cert.VersionIdeal.main_arg4)) (m ((c.tc : Thread Cert.VersionIdeal.nD Cert.VersionIdeal.τ).loc Cert.VersionIdeal.main_arg5)) (m ((c.tc : Thread Cert.VersionIdeal.nD Cert.VersionIdeal.τ).loc Cert.VersionIdeal.main_arg6)) (m ((c.tc : Thread Cert.VersionIdeal.nD Cert.VersionIdeal.τ).loc Cert.VersionIdeal.main_arg7)) (m ((c.tc : Thread Cert.VersionIdeal.nD Cert.VersionIdeal.τ).loc Cert.VersionIdeal.main_arg8))).2.2.2.2.2.2.1 = (fun _ => 1#1)
    ∧ (Cert.Pre_finite.fn (F := Ideal) (m ((c.tc : Thread Cert.VersionIdeal.nD Cert.VersionIdeal.τ).loc Cert.VersionIdeal.main_arg0)) (m ((c.tc : Thread Cert.VersionIdeal.nD Cert.VersionIdeal.τ).loc Cert.VersionIdeal.main_arg1)) (m ((c.tc : Thread Cert.VersionIdeal.nD Cert.VersionIdeal.τ).loc Cert.VersionIdeal.main_arg2)) (m ((c.tc : Thread Cert.VersionIdeal.nD Cert.VersionIdeal.τ).loc Cert.VersionIdeal.main_arg3)) (m ((c.tc : Thread Cert.VersionIdeal.nD Cert.VersionIdeal.τ).loc Cert.VersionIdeal.main_arg4)) (m ((c.tc : Thread Cert.VersionIdeal.nD Cert.VersionIdeal.τ).loc Cert.VersionIdeal.main_arg5)) (m ((c.tc : Thread Cert.VersionIdeal.nD Cert.VersionIdeal.τ).loc Cert.VersionIdeal.main_arg6)) (m ((c.tc : Thread Cert.VersionIdeal.nD Cert.VersionIdeal.τ).loc Cert.VersionIdeal.main_arg7)) (m ((c.tc : Thread Cert.VersionIdeal.nD Cert.VersionIdeal.τ).loc Cert.VersionIdeal.main_arg8))).2.2.2.2.2.2.2.1 = (fun _ => 1#1)
    ∧ (Cert.Pre_finite.fn (F := Ideal) (m ((c.tc : Thread Cert.VersionIdeal.nD Cert.VersionIdeal.τ).loc Cert.VersionIdeal.main_arg0)) (m ((c.tc : Thread Cert.VersionIdeal.nD Cert.VersionIdeal.τ).loc Cert.VersionIdeal.main_arg1)) (m ((c.tc : Thread Cert.VersionIdeal.nD Cert.VersionIdeal.τ).loc Cert.VersionIdeal.main_arg2)) (m ((c.tc : Thread Cert.VersionIdeal.nD Cert.VersionIdeal.τ).loc Cert.VersionIdeal.main_arg3)) (m ((c.tc : Thread Cert.VersionIdeal.nD Cert.VersionIdeal.τ).loc Cert.VersionIdeal.main_arg4)) (m ((c.tc : Thread Cert.VersionIdeal.nD Cert.VersionIdeal.τ).loc Cert.VersionIdeal.main_arg5)) (m ((c.tc : Thread Cert.VersionIdeal.nD Cert.VersionIdeal.τ).loc Cert.VersionIdeal.main_arg6)) (m ((c.tc : Thread Cert.VersionIdeal.nD Cert.VersionIdeal.τ).loc Cert.VersionIdeal.main_arg7)) (m ((c.tc : Thread Cert.VersionIdeal.nD Cert.VersionIdeal.τ).loc Cert.VersionIdeal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_VersionIdeal [hVersionIdeal : Cert.VersionIdeal.Facts] : Prop :=
  ∀ (m : (ℓ : Loc Cert.VersionIdeal.nD Cert.VersionIdeal.τ Cert.VersionIdeal.sig) → Buf (Elt Ideal) ℓ) (g : Dev Cert.VersionIdeal.nD → PrngReg), Pre_VersionIdeal m →
    θ_run (Cert.VersionIdeal.defs (F := Ideal)) (Cert.VersionIdeal.threads (F := Ideal)) ⟨m, fun _ => 0, g⟩ (fun r => (∀ c : Dev Cert.VersionIdeal.nD,
      r.2.mem ((c.tc : Thread Cert.VersionIdeal.nD Cert.VersionIdeal.τ).loc Cert.VersionIdeal.main_arg0) = m ((c.tc : Thread Cert.VersionIdeal.nD Cert.VersionIdeal.τ).loc Cert.VersionIdeal.main_arg0)
      ∧ r.2.mem ((c.tc : Thread Cert.VersionIdeal.nD Cert.VersionIdeal.τ).loc Cert.VersionIdeal.main_arg1) = m ((c.tc : Thread Cert.VersionIdeal.nD Cert.VersionIdeal.τ).loc Cert.VersionIdeal.main_arg1)
      ∧ r.2.mem ((c.tc : Thread Cert.VersionIdeal.nD Cert.VersionIdeal.τ).loc Cert.VersionIdeal.main_arg2) = m ((c.tc : Thread Cert.VersionIdeal.nD Cert.VersionIdeal.τ).loc Cert.VersionIdeal.main_arg2)
      ∧ r.2.mem ((c.tc : Thread Cert.VersionIdeal.nD Cert.VersionIdeal.τ).loc Cert.VersionIdeal.main_arg3) = m ((c.tc : Thread Cert.VersionIdeal.nD Cert.VersionIdeal.τ).loc Cert.VersionIdeal.main_arg3)
      ∧ r.2.mem ((c.tc : Thread Cert.VersionIdeal.nD Cert.VersionIdeal.τ).loc Cert.VersionIdeal.main_arg4) = m ((c.tc : Thread Cert.VersionIdeal.nD Cert.VersionIdeal.τ).loc Cert.VersionIdeal.main_arg4)
      ∧ r.2.mem ((c.tc : Thread Cert.VersionIdeal.nD Cert.VersionIdeal.τ).loc Cert.VersionIdeal.main_arg5) = m ((c.tc : Thread Cert.VersionIdeal.nD Cert.VersionIdeal.τ).loc Cert.VersionIdeal.main_arg5)
      ∧ r.2.mem ((c.tc : Thread Cert.VersionIdeal.nD Cert.VersionIdeal.τ).loc Cert.VersionIdeal.main_arg6) = m ((c.tc : Thread Cert.VersionIdeal.nD Cert.VersionIdeal.τ).loc Cert.VersionIdeal.main_arg6)
      ∧ r.2.mem ((c.tc : Thread Cert.VersionIdeal.nD Cert.VersionIdeal.τ).loc Cert.VersionIdeal.main_arg7) = m ((c.tc : Thread Cert.VersionIdeal.nD Cert.VersionIdeal.τ).loc Cert.VersionIdeal.main_arg7)
      ∧ r.2.mem ((c.tc : Thread Cert.VersionIdeal.nD Cert.VersionIdeal.τ).loc Cert.VersionIdeal.main_arg8) = m ((c.tc : Thread Cert.VersionIdeal.nD Cert.VersionIdeal.τ).loc Cert.VersionIdeal.main_arg8))
      ∧ r.2.sem = fun _ => 0)

def quiescent_VersionIdeal_pre_finite [hVersionIdeal : Cert.VersionIdeal.Facts] [hPre_finite : Cert.Pre_finite.Facts] : Prop :=
  ∀ (m : (ℓ : Loc Cert.VersionIdeal.nD Cert.VersionIdeal.τ Cert.VersionIdeal.sig) → Buf (Elt Ideal) ℓ) (g : Dev Cert.VersionIdeal.nD → PrngReg), Pre_VersionIdeal_finite m →
    θ_run (Cert.VersionIdeal.defs (F := Ideal)) (Cert.VersionIdeal.threads (F := Ideal)) ⟨m, fun _ => 0, g⟩ (fun r => (∀ c : Dev Cert.VersionIdeal.nD,
      r.2.mem ((c.tc : Thread Cert.VersionIdeal.nD Cert.VersionIdeal.τ).loc Cert.VersionIdeal.main_arg0) = m ((c.tc : Thread Cert.VersionIdeal.nD Cert.VersionIdeal.τ).loc Cert.VersionIdeal.main_arg0)
      ∧ r.2.mem ((c.tc : Thread Cert.VersionIdeal.nD Cert.VersionIdeal.τ).loc Cert.VersionIdeal.main_arg1) = m ((c.tc : Thread Cert.VersionIdeal.nD Cert.VersionIdeal.τ).loc Cert.VersionIdeal.main_arg1)
      ∧ r.2.mem ((c.tc : Thread Cert.VersionIdeal.nD Cert.VersionIdeal.τ).loc Cert.VersionIdeal.main_arg2) = m ((c.tc : Thread Cert.VersionIdeal.nD Cert.VersionIdeal.τ).loc Cert.VersionIdeal.main_arg2)
      ∧ r.2.mem ((c.tc : Thread Cert.VersionIdeal.nD Cert.VersionIdeal.τ).loc Cert.VersionIdeal.main_arg3) = m ((c.tc : Thread Cert.VersionIdeal.nD Cert.VersionIdeal.τ).loc Cert.VersionIdeal.main_arg3)
      ∧ r.2.mem ((c.tc : Thread Cert.VersionIdeal.nD Cert.VersionIdeal.τ).loc Cert.VersionIdeal.main_arg4) = m ((c.tc : Thread Cert.VersionIdeal.nD Cert.VersionIdeal.τ).loc Cert.VersionIdeal.main_arg4)
      ∧ r.2.mem ((c.tc : Thread Cert.VersionIdeal.nD Cert.VersionIdeal.τ).loc Cert.VersionIdeal.main_arg5) = m ((c.tc : Thread Cert.VersionIdeal.nD Cert.VersionIdeal.τ).loc Cert.VersionIdeal.main_arg5)
      ∧ r.2.mem ((c.tc : Thread Cert.VersionIdeal.nD Cert.VersionIdeal.τ).loc Cert.VersionIdeal.main_arg6) = m ((c.tc : Thread Cert.VersionIdeal.nD Cert.VersionIdeal.τ).loc Cert.VersionIdeal.main_arg6)
      ∧ r.2.mem ((c.tc : Thread Cert.VersionIdeal.nD Cert.VersionIdeal.τ).loc Cert.VersionIdeal.main_arg7) = m ((c.tc : Thread Cert.VersionIdeal.nD Cert.VersionIdeal.τ).loc Cert.VersionIdeal.main_arg7)
      ∧ r.2.mem ((c.tc : Thread Cert.VersionIdeal.nD Cert.VersionIdeal.τ).loc Cert.VersionIdeal.main_arg8) = m ((c.tc : Thread Cert.VersionIdeal.nD Cert.VersionIdeal.τ).loc Cert.VersionIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def algebraic_VersionIdeal_ReferenceIdeal_pre_finite [hVersionIdeal : Cert.VersionIdeal.Facts] [hReferenceIdeal : Cert.ReferenceIdeal.Facts] [hPre_finite : Cert.Pre_finite.Facts] : Prop :=
  ∀ (m : (ℓ : Loc Cert.VersionIdeal.nD Cert.VersionIdeal.τ Cert.VersionIdeal.sig) → Buf (Elt Ideal) ℓ) (g : Dev Cert.VersionIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_VersionIdeal_finite m →
    (∀ c : Dev Cert.VersionIdeal.nD,
      m' ((c.tc : Thread Cert.ReferenceIdeal.nD Cert.ReferenceIdeal.τ).loc Cert.ReferenceIdeal.main_arg0) = m ((c.tc : Thread Cert.VersionIdeal.nD Cert.VersionIdeal.τ).loc Cert.VersionIdeal.main_arg0)
      ∧ m' ((c.tc : Thread Cert.ReferenceIdeal.nD Cert.ReferenceIdeal.τ).loc Cert.ReferenceIdeal.main_arg1) = m ((c.tc : Thread Cert.VersionIdeal.nD Cert.VersionIdeal.τ).loc Cert.VersionIdeal.main_arg1)
      ∧ m' ((c.tc : Thread Cert.ReferenceIdeal.nD Cert.ReferenceIdeal.τ).loc Cert.ReferenceIdeal.main_arg2) = m ((c.tc : Thread Cert.VersionIdeal.nD Cert.VersionIdeal.τ).loc Cert.VersionIdeal.main_arg2)
      ∧ m' ((c.tc : Thread Cert.ReferenceIdeal.nD Cert.ReferenceIdeal.τ).loc Cert.ReferenceIdeal.main_arg3) = m ((c.tc : Thread Cert.VersionIdeal.nD Cert.VersionIdeal.τ).loc Cert.VersionIdeal.main_arg3)
      ∧ m' ((c.tc : Thread Cert.ReferenceIdeal.nD Cert.ReferenceIdeal.τ).loc Cert.ReferenceIdeal.main_arg4) = m ((c.tc : Thread Cert.VersionIdeal.nD Cert.VersionIdeal.τ).loc Cert.VersionIdeal.main_arg4)
      ∧ m' ((c.tc : Thread Cert.ReferenceIdeal.nD Cert.ReferenceIdeal.τ).loc Cert.ReferenceIdeal.main_arg5) = m ((c.tc : Thread Cert.VersionIdeal.nD Cert.VersionIdeal.τ).loc Cert.VersionIdeal.main_arg5)
      ∧ m' ((c.tc : Thread Cert.ReferenceIdeal.nD Cert.ReferenceIdeal.τ).loc Cert.ReferenceIdeal.main_arg6) = m ((c.tc : Thread Cert.VersionIdeal.nD Cert.VersionIdeal.τ).loc Cert.VersionIdeal.main_arg6)
      ∧ m' ((c.tc : Thread Cert.ReferenceIdeal.nD Cert.ReferenceIdeal.τ).loc Cert.ReferenceIdeal.main_arg7) = m ((c.tc : Thread Cert.VersionIdeal.nD Cert.VersionIdeal.τ).loc Cert.VersionIdeal.main_arg7)
      ∧ m' ((c.tc : Thread Cert.ReferenceIdeal.nD Cert.ReferenceIdeal.τ).loc Cert.ReferenceIdeal.main_arg8) = m ((c.tc : Thread Cert.VersionIdeal.nD Cert.VersionIdeal.τ).loc Cert.VersionIdeal.main_arg8)) →
    ∃ (v0 : (c : Dev Cert.VersionIdeal.nD) → Buf (Elt Ideal) ((c.tc : Thread Cert.VersionIdeal.nD Cert.VersionIdeal.τ).loc Cert.VersionIdeal.main_v6_0)) (v1 : (c : Dev Cert.VersionIdeal.nD) → Buf (Elt Ideal) ((c.tc : Thread Cert.VersionIdeal.nD Cert.VersionIdeal.τ).loc Cert.VersionIdeal.main_v18)),
      θ_run (Cert.VersionIdeal.defs (F := Ideal)) (Cert.VersionIdeal.threads (F := Ideal)) ⟨m, fun _ => 0, g⟩ (fun r => ∀ c : Dev Cert.VersionIdeal.nD,
          r.2.mem ((c.tc : Thread Cert.VersionIdeal.nD Cert.VersionIdeal.τ).loc Cert.VersionIdeal.main_v6_0) = v0 c
          ∧ r.2.mem ((c.tc : Thread Cert.VersionIdeal.nD Cert.VersionIdeal.τ).loc Cert.VersionIdeal.main_v18) = v1 c
          ∧ r.2.mem ((c.tc : Thread Cert.VersionIdeal.nD Cert.VersionIdeal.τ).loc Cert.VersionIdeal.main_arg0) = m ((c.tc : Thread Cert.VersionIdeal.nD Cert.VersionIdeal.τ).loc Cert.VersionIdeal.main_arg0)
          ∧ r.2.mem ((c.tc : Thread Cert.VersionIdeal.nD Cert.VersionIdeal.τ).loc Cert.VersionIdeal.main_arg1) = m ((c.tc : Thread Cert.VersionIdeal.nD Cert.VersionIdeal.τ).loc Cert.VersionIdeal.main_arg1)
          ∧ r.2.mem ((c.tc : Thread Cert.VersionIdeal.nD Cert.VersionIdeal.τ).loc Cert.VersionIdeal.main_arg2) = m ((c.tc : Thread Cert.VersionIdeal.nD Cert.VersionIdeal.τ).loc Cert.VersionIdeal.main_arg2)
          ∧ r.2.mem ((c.tc : Thread Cert.VersionIdeal.nD Cert.VersionIdeal.τ).loc Cert.VersionIdeal.main_arg3) = m ((c.tc : Thread Cert.VersionIdeal.nD Cert.VersionIdeal.τ).loc Cert.VersionIdeal.main_arg3)
          ∧ r.2.mem ((c.tc : Thread Cert.VersionIdeal.nD Cert.VersionIdeal.τ).loc Cert.VersionIdeal.main_arg4) = m ((c.tc : Thread Cert.VersionIdeal.nD Cert.VersionIdeal.τ).loc Cert.VersionIdeal.main_arg4)
          ∧ r.2.mem ((c.tc : Thread Cert.VersionIdeal.nD Cert.VersionIdeal.τ).loc Cert.VersionIdeal.main_arg5) = m ((c.tc : Thread Cert.VersionIdeal.nD Cert.VersionIdeal.τ).loc Cert.VersionIdeal.main_arg5)
          ∧ r.2.mem ((c.tc : Thread Cert.VersionIdeal.nD Cert.VersionIdeal.τ).loc Cert.VersionIdeal.main_arg6) = m ((c.tc : Thread Cert.VersionIdeal.nD Cert.VersionIdeal.τ).loc Cert.VersionIdeal.main_arg6)
          ∧ r.2.mem ((c.tc : Thread Cert.VersionIdeal.nD Cert.VersionIdeal.τ).loc Cert.VersionIdeal.main_arg7) = m ((c.tc : Thread Cert.VersionIdeal.nD Cert.VersionIdeal.τ).loc Cert.VersionIdeal.main_arg7)
          ∧ r.2.mem ((c.tc : Thread Cert.VersionIdeal.nD Cert.VersionIdeal.τ).loc Cert.VersionIdeal.main_arg8) = m ((c.tc : Thread Cert.VersionIdeal.nD Cert.VersionIdeal.τ).loc Cert.VersionIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hVersionIdeal : Cert.VersionIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_VersionIdeal (hVersionIdeal := hVersionIdeal)
    ∧ quiescent_VersionIdeal_pre_finite (hVersionIdeal := hVersionIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ algebraic_VersionIdeal_ReferenceIdeal_pre_finite (hVersionIdeal := hVersionIdeal) (hReferenceIdeal := hReferenceIdeal) (hPre_finite := hPre_finite)
-- ==== Pre_finite.lean ====
abbrev S1024x128 : Shape := ⟨2, ![1024, 128]⟩
abbrev S1024x512 : Shape := ⟨2, ![1024, 512]⟩
abbrev S640x256 : Shape := ⟨2, ![640, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1024x64 : Shape := ⟨2, ![1024, 64]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S640x256 : S_.BroadcastsInDim S640x256 (![] : Fin 0 → Fin S640x256.rank)
  reducesTo_S640x256_S_d0_1 : S640x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S1024x64 : S_.BroadcastsInDim S1024x64 (![] : Fin 0 → Fin S1024x64.rank)
  reducesTo_S1024x64_S_d0_1 : S1024x64.ReducesTo [0, 1] S_

variable [Facts]

def fn_part2 {F : FTy → Type} [FloatOps F] (main_arg8 : FVec F S1024x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 × IVec S_ 1 × IVec S_ 1 × IVec S_ 1 × IVec S_ 1 × IVec S_ 1 × IVec S_ 1 × IVec S_ 1 × IVec S_ 1 :=
  let main_v32 : FVec F S1024x64 .f32 := Host.absf main_arg8
  let main_cst_14 : FVec F S_ .f32 := constant S_ .f32 0x7F800000#32
  let main_v33 : FVec F S1024x64 .f32 := broadcastInDim S1024x64 ![] bcast_S_S1024x64 main_cst_14
  let main_v34 : IVec S1024x64 1 := cmpf .olt main_v32 main_v33
  let main_c_15 : IVec S_ 1 := constantI S_ 1 1#1
  let main_v35 : IVec S_ 1 := (fun x v => Host.reduce IntOp.andi x v reducesTo_S1024x64_S_d0_1 h_S_) main_v34 main_c_15
  (main_v3, main_v7, main_v11, main_v15, main_v19, main_v23, main_v27, main_v31, main_v35)

def fn_part1 {F : FTy → Type} [FloatOps F] (main_arg4 : FVec F S256x256 .f32) (main_arg5 : FVec F S256 .f32) (main_arg6 : FVec F S256x64 .f32) (main_arg7 : FVec F S64 .f32) (main_arg8 : FVec F S1024x64 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 × IVec S_ 1 :=
  let main_v16 : FVec F S256x256 .f32 := Host.absf main_arg4
  let main_cst_6 : FVec F S_ .f32 := constant S_ .f32 0x7F800000#32
  let main_v17 : FVec F S256x256 .f32 := broadcastInDim S256x256 ![] bcast_S_S256x256 main_cst_6
  let main_v18 : IVec S256x256 1 := cmpf .olt main_v16 main_v17
  let main_c_7 : IVec S_ 1 := constantI S_ 1 1#1
  let main_v19 : IVec S_ 1 := (fun x v => Host.reduce IntOp.andi x v reducesTo_S256x256_S_d0_1 h_S_) main_v18 main_c_7
  let main_v20 : FVec F S256 .f32 := Host.absf main_arg5
  let main_cst_8 : FVec F S_ .f32 := constant S_ .f32 0x7F800000#32
  let main_v21 : FVec F S256 .f32 := broadcastInDim S256 ![] bcast_S_S256 main_cst_8
  let main_v22 : IVec S256 1 := cmpf .olt main_v20 main_v21
  let main_c_9 : IVec S_ 1 := constantI S_ 1 1#1
  let main_v23 : IVec S_ 1 := (fun x v => Host.reduce IntOp.andi x v reducesTo_S256_S_d0 h_S_) main_v22 main_c_9
  let main_v24 : FVec F S256x64 .f32 := Host.absf main_arg6
  let main_cst_10 : FVec F S_ .f32 := constant S_ .f32 0x7F800000#32
  let main_v25 : FVec F S256x64 .f32 := broadcastInDim S256x64 ![] bcast_S_S256x64 main_cst_10
  let main_v26 : IVec S256x64 1 := cmpf .olt main_v24 main_v25
  let main_c_11 : IVec S_ 1 := constantI S_ 1 1#1
  let main_v27 : IVec S_ 1 := (fun x v => Host.reduce IntOp.andi x v reducesTo_S256x64_S_d0_1 h_S_) main_v26 main_c_11
  let main_v28 : FVec F S64 .f32 := Host.absf main_arg7
  let main_cst_12 : FVec F S_ .f32 := constant S_ .f32 0x7F800000#32
  let main_v29 : FVec F S64 .f32 := broadcastInDim S64 ![] bcast_S_S64 main_cst_12
  let main_v30 : IVec S64 1 := cmpf .olt main_v28 main_v29
  let main_c_13 : IVec S_ 1 := constantI S_ 1 1#1
  let main_v31 : IVec S_ 1 := (fun x v => Host.reduce IntOp.andi x v reducesTo_S64_S_d0 h_S_) main_v30 main_c_13
  fn_part2 (F := F) main_arg8 main_v3 main_v7 main_v11 main_v15 main_v19 main_v23 main_v27 main_v31

def fn {F : FTy → Type} [FloatOps F] (main_arg0 : FVec F S1024x128 .f32) (main_arg1 : FVec F S1024x512 .f32) (main_arg2 : FVec F S640x256 .f32) (main_arg3 : FVec F S256 .f32) (main_arg4 : FVec F S256x256 .f32) (main_arg5 : FVec F S256 .f32) (main_arg6 : FVec F S256x64 .f32) (main_arg7 : FVec F S64 .f32) (main_arg8 : FVec F S1024x64 .f32) : IVec S_ 1 × IVec S_ 1 × IVec S_ 1 × IVec S_ 1 × IVec S_ 1 × IVec S_ 1 × IVec S_ 1 × IVec S_ 1 × IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : FVec F S640x256 .f32 := Host.absf main_arg2
  let main_cst_2 : FVec F S_ .f32 := constant S_ .f32 0x7F800000#32
  let main_v9 : FVec F S640x256 .f32 := broadcastInDim S640x256 ![] bcast_S_S640x256 main_cst_2
  let main_v10 : IVec S640x256 1 := cmpf .olt main_v8 main_v9
  let main_c_3 : IVec S_ 1 := constantI S_ 1 1#1
  let main_v11 : IVec S_ 1 := (fun x v => Host.reduce IntOp.andi x v reducesTo_S640x256_S_d0_1 h_S_) main_v10 main_c_3
  let main_v12 : FVec F S256 .f32 := Host.absf main_arg3
  let main_cst_4 : FVec F S_ .f32 := constant S_ .f32 0x7F800000#32
  let main_v13 : FVec F S256 .f32 := broadcastInDim S256 ![] bcast_S_S256 main_cst_4
  let main_v14 : IVec S256 1 := cmpf .olt main_v12 main_v13
  let main_c_5 : IVec S_ 1 := constantI S_ 1 1#1
  let main_v15 : IVec S_ 1 := (fun x v => Host.reduce IntOp.andi x v reducesTo_S256_S_d0 h_S_) main_v14 main_c_5
  fn_part1 (F := F) main_arg4 main_arg5 main_arg6 main_arg7 main_arg8 main_v3 main_v7 main_v11 main_v15
-- ==== Kernel.lean ====
abbrev S1024x128 : Shape := ⟨2, ![1024, 128]⟩
abbrev S1024x512 : Shape := ⟨2, ![1024, 512]⟩
abbrev S640x256 : Shape := ⟨2, ![640, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1024x64 : Shape := ⟨2, ![1024, 64]⟩
abbrev S512x128 : Shape := ⟨2, ![512, 128]⟩
abbrev S512 : Shape := ⟨1, ![512]⟩
abbrev S16 : Shape := ⟨1, ![16]⟩
abbrev S16x128 : Shape := ⟨2, ![16, 128]⟩
abbrev S_ : Shape := ⟨0, ![]⟩
abbrev S1x256 : Shape := ⟨2, ![1, 256]⟩
abbrev S1x64 : Shape := ⟨2, ![1, 64]⟩
abbrev S1024x1 : Shape := ⟨2, ![1024, 1]⟩
abbrev S1024x640 : Shape := ⟨2, ![1024, 640]⟩
abbrev S1024x256 : Shape := ⟨2, ![1024, 256]⟩
abbrev S1024x65 : Shape := ⟨2, ![1024, 65]⟩
abbrev S1024 : Shape := ⟨1, ![1024]⟩
abbrev S1024x1024 : Shape := ⟨2, ![1024, 1024]⟩
abbrev S32 : Shape := ⟨1, ![32]⟩
abbrev S32x128 : Shape := ⟨2, ![32, 128]⟩

abbrev nBuf : Table → Nat
  | .hbm => 33
  | .local .tc .vmem => 11
  | .local .scVector .vmem => 4
  | _ => 0

abbrev bufTy : (tb : Table) → Fin (nBuf tb) → BufTy
  | .hbm, ⟨0, _⟩ => ⟨S1024x128, .f32⟩
  | .hbm, ⟨1, _⟩ => ⟨S1024x512, .f32⟩
  | .hbm, ⟨2, _⟩ => ⟨S640x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S1024x64, .f32⟩
  | .hbm, ⟨9, _⟩ => ⟨S512x128, .f32⟩
  | .hbm, ⟨10, _⟩ => ⟨S512, .i32⟩
  | .hbm, ⟨11, _⟩ => ⟨S512x128, .f32⟩
  | .hbm, ⟨12, _⟩ => ⟨S1x256, .f32⟩
  | .hbm, ⟨13, _⟩ => ⟨S1x256, .f32⟩
  | .hbm, ⟨14, _⟩ => ⟨S1x64, .f32⟩
  | .hbm, ⟨15, _⟩ => ⟨S1024x64, .f32⟩
  | .hbm, ⟨16, _⟩ => ⟨S1024x1, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024x128, .f32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S_, .i32⟩
  | .hbm, ⟨27, _⟩ => ⟨S1024x1, .i32⟩
  | .hbm, ⟨28, _⟩ => ⟨S1024x1, .i1⟩
  | .hbm, ⟨29, _⟩ => ⟨S1024x64, .f32⟩
  | .hbm, ⟨30, _⟩ => ⟨S1024x64, .f32⟩
  | .hbm, ⟨31, _⟩ => ⟨S1024x64, .i1⟩
  | .hbm, ⟨32, _⟩ => ⟨S1024x64, .f32⟩
  | .local .tc .vmem, ⟨0, _⟩ => ⟨S1024x128, .f32⟩
  | .local .tc .vmem, ⟨1, _⟩ => ⟨S1024x512, .f32⟩
  | .local .tc .vmem, ⟨2, _⟩ => ⟨S640x256, .f32⟩
  | .local .tc .vmem, ⟨3, _⟩ => ⟨S1x256, .f32⟩
  | .local .tc .vmem, ⟨4, _⟩ => ⟨S256x256, .f32⟩
  | .local .tc .vmem, ⟨5, _⟩ => ⟨S1x256, .f32⟩
  | .local .tc .vmem, ⟨6, _⟩ => ⟨S256x64, .f32⟩
  | .local .tc .vmem, ⟨7, _⟩ => ⟨S1x64, .f32⟩
  | .local .tc .vmem, ⟨8, _⟩ => ⟨S1024x64, .f32⟩
  | .local .tc .vmem, ⟨9, _⟩ => ⟨S1024x64, .f32⟩
  | .local .tc .vmem, ⟨10, _⟩ => ⟨S1024x1, .i32⟩
  | .local .scVector .vmem, ⟨0, _⟩ => ⟨S16, .i32⟩
  | .local .scVector .vmem, ⟨1, _⟩ => ⟨S16x128, .f32⟩
  | .local .scVector .vmem, ⟨2, _⟩ => ⟨S32, .i32⟩
  | .local .scVector .vmem, ⟨3, _⟩ => ⟨S32x128, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_v18 : Ref sig .tc := ⟨.hbm, 32, rfl⟩
abbrev main_v0_scv : Ref sig .scVector := ⟨.hbm, 9, rfl⟩
abbrev main_v1_scv : Ref sig .scVector := ⟨.hbm, 10, rfl⟩
abbrev main_v2_scv : Ref sig .scVector := ⟨.hbm, 11, rfl⟩
abbrev main_v9_scv : Ref sig .scVector := ⟨.hbm, 20, rfl⟩
abbrev main_v10_scv : Ref sig .scVector := ⟨.hbm, 21, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc1_sem10_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_3_r1 : BitVec 32 := 0#32
  ![v2.toNat, 0]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S640x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S1024x1 .i32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1024x128 : Shape := ⟨2, ![1024, 128]⟩
abbrev S1024x512 : Shape := ⟨2, ![1024, 512]⟩
abbrev S640x256 : Shape := ⟨2, ![640, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1024x64 : Shape := ⟨2, ![1024, 64]⟩
abbrev S1024x640 : Shape := ⟨2, ![1024, 640]⟩
abbrev S1024x256 : Shape := ⟨2, ![1024, 256]⟩
abbrev S1x256 : Shape := ⟨2, ![1, 256]⟩
abbrev S_ : Shape := ⟨0, ![]⟩
abbrev S1x64 : Shape := ⟨2, ![1, 64]⟩
abbrev S1024x1x64 : Shape := ⟨3, ![1024, 1, 64]⟩
abbrev S1x1024x64 : Shape := ⟨3, ![1, 1024, 64]⟩
abbrev S1024x1024x64 : Shape := ⟨3, ![1024, 1024, 64]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x512, .f32⟩
  | .hbm, ⟨2, _⟩ => ⟨S640x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S1024x64, .f32⟩
  | .hbm, ⟨9, _⟩ => ⟨S1024x640, .f32⟩
  | .hbm, ⟨10, _⟩ => ⟨S1024x256, .f32⟩
  | .hbm, ⟨11, _⟩ => ⟨S1x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S1024x64, .f32⟩
  | .hbm, ⟨25, _⟩ => ⟨S1x64, .f32⟩
  | .hbm, ⟨26, _⟩ => ⟨S1024x64, .f32⟩
  | .hbm, ⟨27, _⟩ => ⟨S1024x64, .f32⟩
  | .hbm, ⟨28, _⟩ => ⟨S1024x1x64, .f32⟩
  | .hbm, ⟨29, _⟩ => ⟨S1x1024x64, .f32⟩
  | .hbm, ⟨30, _⟩ => ⟨S1024x1024x64, .f32⟩
  | .hbm, ⟨31, _⟩ => ⟨S1024x1024x64, .f32⟩
  | .hbm, ⟨32, _⟩ => ⟨S1024x1024x64, .f32⟩
  | .hbm, ⟨33, _⟩ => ⟨S1024x1024x64, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .i32⟩
  | .hbm, ⟨38, _⟩ => ⟨S_, .f32⟩
  | .hbm, ⟨39, _⟩ => ⟨S_, .i32⟩
  | .hbm, ⟨40, _⟩ => ⟨S1024, .f32⟩
  | .hbm, ⟨41, _⟩ => ⟨S1024, .i32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S1024x1, .i32⟩
  | .hbm, ⟨50, _⟩ => ⟨S1, .i32⟩
  | .hbm, ⟨51, _⟩ => ⟨S_, .i32⟩
  | .hbm, ⟨52, _⟩ => ⟨S1024x1, .i32⟩
  | .hbm, ⟨53, _⟩ => ⟨S1024x1, .i1⟩
  | .hbm, ⟨54, _⟩ => ⟨S1x1, .i32⟩
  | .hbm, ⟨55, _⟩ => ⟨S1024x1, .i32⟩
  | .hbm, ⟨56, _⟩ => ⟨S1024x1, .i1⟩
  | .hbm, ⟨57, _⟩ => ⟨S1024x1, .i1⟩
  | .hbm, ⟨58, _⟩ => ⟨S_, .i1⟩
  | .hbm, ⟨59, _⟩ => ⟨S1024, .i1⟩
  | .hbm, ⟨60, _⟩ => ⟨S1024x64, .f32⟩
  | .hbm, ⟨61, _⟩ => ⟨S1024x64, .i1⟩
  | .hbm, ⟨62, _⟩ => ⟨S_, .f32⟩
  | .hbm, ⟨63, _⟩ => ⟨S1024x64, .f32⟩
  | .hbm, ⟨64, _⟩ => ⟨S1024x64, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_cst : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call2_v0 : Ref sig .tc := ⟨.hbm, 33, rfl⟩
abbrev main_call2_cst : Ref sig .tc := ⟨.hbm, 34, rfl⟩
abbrev main_call2_v1 : Ref sig .tc := ⟨.hbm, 35, rfl⟩
abbrev main_v20 : Ref sig .tc := ⟨.hbm, 36, rfl⟩
abbrev main_call3_v0 : Ref sig .tc := ⟨.hbm, 37, rfl⟩
abbrev main_call3_cst : Ref sig .tc := ⟨.hbm, 38, rfl⟩
abbrev main_call3_c : Ref sig .tc := ⟨.hbm, 39, rfl⟩
abbrev main_call3_v1_0 : Ref sig .tc := ⟨.hbm, 40, rfl⟩
abbrev main_v21 : Ref sig .tc := ⟨.hbm, 41, rfl⟩
abbrev main_call4_c : Ref sig .tc := ⟨.hbm, 42, rfl⟩
abbrev main_call4_v0 : Ref sig .tc := ⟨.hbm, 43, rfl⟩
abbrev main_call4_v1 : Ref sig .tc := ⟨.hbm, 44, rfl⟩
abbrev main_call4_c_0 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_c_1 : Ref sig .tc := ⟨.hbm, 50, rfl⟩
abbrev main_call4_c_2 : Ref sig .tc := ⟨.hbm, 51, rfl⟩
abbrev main_call4_v6 : Ref sig .tc := ⟨.hbm, 52, rfl⟩
abbrev main_call4_v7 : Ref sig .tc := ⟨.hbm, 53, rfl⟩
abbrev main_call4_v8 : Ref sig .tc := ⟨.hbm, 54, rfl⟩
abbrev main_call4_v9 : Ref sig .tc := ⟨.hbm, 55, rfl⟩
abbrev main_call4_v10 : Ref sig .tc := ⟨.hbm, 56, rfl⟩
abbrev main_call4_v11 : Ref sig .tc := ⟨.hbm, 57, rfl⟩
abbrev main_call4_c_3 : Ref sig .tc := ⟨.hbm, 58, rfl⟩
abbrev main_call4_v12 : Ref sig .tc := ⟨.hbm, 59, rfl⟩
abbrev main_call4_v13 : Ref sig .tc := ⟨.hbm, 60, rfl⟩
abbrev main_call4_v14 : Ref sig .tc := ⟨.hbm, 61, rfl⟩
abbrev main_call4_cst : Ref sig .tc := ⟨.hbm, 62, rfl⟩
abbrev main_call4_v15 : Ref sig .tc := ⟨.hbm, 63, rfl⟩
abbrev main_v22 : Ref sig .tc := ⟨.hbm, 64, rfl⟩

abbrev nD : Nat := 1
abbrev τ : Topo := Topo.v7x

variable {F : FTy → Type} [FloatOps F]
-- ==== VersionIdeal.lean ====
abbrev S1024x128 : Shape := ⟨2, ![1024, 128]⟩
abbrev S1024x512 : Shape := ⟨2, ![1024, 512]⟩
abbrev S640x256 : Shape := ⟨2, ![640, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1024x64 : Shape := ⟨2, ![1024, 64]⟩
abbrev S512x128 : Shape := ⟨2, ![512, 128]⟩
abbrev S512 : Shape := ⟨1, ![512]⟩
abbrev S16 : Shape := ⟨1, ![16]⟩
abbrev S16x128 : Shape := ⟨2, ![16, 128]⟩
abbrev S_ : Shape := ⟨0, ![]⟩
abbrev S1x256 : Shape := ⟨2, ![1, 256]⟩
abbrev S1x64 : Shape := ⟨2, ![1, 64]⟩
abbrev S1024x1 : Shape := ⟨2, ![1024, 1]⟩
abbrev S1024x640 : Shape := ⟨2, ![1024, 640]⟩
abbrev S1024x256 : Shape := ⟨2, ![1024, 256]⟩
abbrev S1024x65 : Shape := ⟨2, ![1024, 65]⟩
abbrev S1024 : Shape := ⟨1, ![1024]⟩
abbrev S1024x1024 : Shape := ⟨2, ![1024, 1024]⟩
abbrev S32 : Shape := ⟨1, ![32]⟩
abbrev S32x128 : Shape := ⟨2, ![32, 128]⟩

abbrev nBuf : Table → Nat
  | .hbm => 33
  | .local .tc .vmem => 11
  | .local .scVector .vmem => 4
  | _ => 0

abbrev bufTy : (tb : Table) → Fin (nBuf tb) → BufTy
  | .hbm, ⟨0, _⟩ => ⟨S1024x128, .f32⟩
  | .hbm, ⟨1, _⟩ => ⟨S1024x512, .f32⟩
  | .hbm, ⟨2, _⟩ => ⟨S640x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S1024x64, .f32⟩
  | .hbm, ⟨9, _⟩ => ⟨S512x128, .f32⟩
  | .hbm, ⟨10, _⟩ => ⟨S512, .i32⟩
  | .hbm, ⟨11, _⟩ => ⟨S512x128, .f32⟩
  | .hbm, ⟨12, _⟩ => ⟨S1x256, .f32⟩
  | .hbm, ⟨13, _⟩ => ⟨S1x256, .f32⟩
  | .hbm, ⟨14, _⟩ => ⟨S1x64, .f32⟩
  | .hbm, ⟨15, _⟩ => ⟨S1024x64, .f32⟩
  | .hbm, ⟨16, _⟩ => ⟨S1024x1, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024x128, .f32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S_, .i32⟩
  | .hbm, ⟨27, _⟩ => ⟨S1024x1, .i32⟩
  | .hbm, ⟨28, _⟩ => ⟨S1024x1, .i1⟩
  | .hbm, ⟨29, _⟩ => ⟨S1024x64, .f32⟩
  | .hbm, ⟨30, _⟩ => ⟨S1024x64, .f32⟩
  | .hbm, ⟨31, _⟩ => ⟨S1024x64, .i1⟩
  | .hbm, ⟨32, _⟩ => ⟨S1024x64, .f32⟩
  | .local .tc .vmem, ⟨0, _⟩ => ⟨S1024x128, .f32⟩
  | .local .tc .vmem, ⟨1, _⟩ => ⟨S1024x512, .f32⟩
  | .local .tc .vmem, ⟨2, _⟩ => ⟨S640x256, .f32⟩
  | .local .tc .vmem, ⟨3, _⟩ => ⟨S1x256, .f32⟩
  | .local .tc .vmem, ⟨4, _⟩ => ⟨S256x256, .f32⟩
  | .local .tc .vmem, ⟨5, _⟩ => ⟨S1x256, .f32⟩
  | .local .tc .vmem, ⟨6, _⟩ => ⟨S256x64, .f32⟩
  | .local .tc .vmem, ⟨7, _⟩ => ⟨S1x64, .f32⟩
  | .local .tc .vmem, ⟨8, _⟩ => ⟨S1024x64, .f32⟩
  | .local .tc .vmem, ⟨9, _⟩ => ⟨S1024x64, .f32⟩
  | .local .tc .vmem, ⟨10, _⟩ => ⟨S1024x1, .i32⟩
  | .local .scVector .vmem, ⟨0, _⟩ => ⟨S16, .i32⟩
  | .local .scVector .vmem, ⟨1, _⟩ => ⟨S16x128, .f32⟩
  | .local .scVector .vmem, ⟨2, _⟩ => ⟨S32, .i32⟩
  | .local .scVector .vmem, ⟨3, _⟩ => ⟨S32x128, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_v18 : Ref sig .tc := ⟨.hbm, 32, rfl⟩
abbrev main_v0_scv : Ref sig .scVector := ⟨.hbm, 9, rfl⟩
abbrev main_v1_scv : Ref sig .scVector := ⟨.hbm, 10, rfl⟩
abbrev main_v2_scv : Ref sig .scVector := ⟨.hbm, 11, rfl⟩
abbrev main_v9_scv : Ref sig .scVector := ⟨.hbm, 20, rfl⟩
abbrev main_v10_scv : Ref sig .scVector := ⟨.hbm, 21, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc1_sem10_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_3_r1 : BitVec 32 := 0#32
  ![v2.toNat, 0]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S640x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S1024x1 .i32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Proof.Common.lean ====
/-
  What the other modules share: the program as the launch theorem sees it, the resource algebra, the buffers of the two
  SparseCore gathers, and how their operands are cut among the 32 tiles. Tile `(core c, subcore i)` has number
  `2 * i + c`: it takes that one of the 32 blocks of rows of the list and of the output, and a share of the whole table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.ViewIndex
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Vq

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type}

/-! ## The program as the launch theorem sees it -/

/-- The labels below the SparseCore's: the kernels' and the one pipeline's. -/
abbrev ΛP : Labels := Pipeline.Sig Λ₀ (Fin 1) fun p => (pcfgs (F := F) p).Adm

/-- The shapes that vary with the launch, none of which this pipeline has. -/
abbrev adm : (p : Fin 1) → (pcfgs (F := F) p).Adm := fun p => (cfgs p).toPCfg_adm

section
variable [FloatOps F]

/-- The SparseCore calls. -/
abbrev K : SparseCore.Cfg τ sig (ΛP (F := F)) 2 := sc (F := F)
/-- The definitions below the SparseCore's. -/
abbrev D : Defs nD τ sig (Elt F) (ΛP (F := F)) := Pipeline.defs pcfgs defs₀

end

abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UU : Type := UH × (UR sig nD τ × Counters)

local notation "𝕄" => MT nD τ sig (HIx 2) (Elt F) ℕ UU ℕ

/-- Where the handshakes' rounds live. -/
abbrev EH : Emb UH (MT nD τ sig (HIx 2) (Elt F) ℕ UU ℕ) := embL
/-- Where the pipeline's rounds live. -/
abbrev EP : Emb (UR sig nD τ) (MT nD τ sig (HIx 2) (Elt F) ℕ UU ℕ) :=
  (Emb.inl : Emb (UR sig nD τ) (UR sig nD τ × Counters)).trans embR

instance EP_landsIn : (EP (F := F)).LandsIn (upEmb : UEmb _ (MT nD τ sig (HIx 2) (Elt F) ℕ UU ℕ)) := by
  unfold EP embR; infer_instance

/-! ## The gathers' operands -/

/-- The table, the list of rows and the output of the first gather, -/
abbrev t0Loc (d : Dev nD) : Loc nD τ sig := (SparseCore.T d).loc main_v0
abbrev i0Loc (d : Dev nD) : Loc nD τ sig := (SparseCore.T d).loc main_v1
abbrev o0Loc (d : Dev nD) : Loc nD τ sig := (SparseCore.T d).loc main_v2
/-- and of the second, whose table is the first's output. -/
abbrev t2Loc (d : Dev nD) : Loc nD τ sig := (SparseCore.T d).loc main_v2
abbrev i2Loc (d : Dev nD) : Loc nD τ sig := (SparseCore.T d).loc main_v9
abbrev o2Loc (d : Dev nD) : Loc nD τ sig := (SparseCore.T d).loc main_v10

local notation "t0V" => (Memref.whole Cert.KernelIdeal.main_v0_scv : Memref Cert.KernelIdeal.sig Kind.scVector Space.hbm Cert.KernelIdeal.S512x128 EltTy.f32)
local notation "i0V" => (Memref.whole Cert.KernelIdeal.main_v1_scv : Memref Cert.KernelIdeal.sig Kind.scVector Space.hbm Cert.KernelIdeal.S512 EltTy.i32)
local notation "o0V" => (Memref.whole Cert.KernelIdeal.main_v2_scv : Memref Cert.KernelIdeal.sig Kind.scVector Space.hbm Cert.KernelIdeal.S512x128 EltTy.f32)
local notation "i2V" => (Memref.whole Cert.KernelIdeal.main_v9_scv : Memref Cert.KernelIdeal.sig Kind.scVector Space.hbm Cert.KernelIdeal.S1024 EltTy.i32)
local notation "o2V" => (Memref.whole Cert.KernelIdeal.main_v10_scv : Memref Cert.KernelIdeal.sig Kind.scVector Space.hbm Cert.KernelIdeal.S1024x128 EltTy.f32)

theorem i0div : 32 ∣ S512.size 0 := ⟨16, rfl⟩
theorem o0div : 32 ∣ S512x128.size 0 := ⟨16, rfl⟩
theorem i2div : 32 ∣ S1024.size 0 := ⟨32, rfl⟩
theorem o2div : 32 ∣ S1024x128.size 0 := ⟨32, rfl⟩

/-- Block `w` of 32 of each list and output. -/
abbrev i0row (w : Fin 32) : Rect S512 := Rect.part (s := S512) (a₀ := 0) i0div w
abbrev o0row (w : Fin 32) : Rect S512x128 := Rect.part (s := S512x128) (a₀ := 0) o0div w
abbrev i2row (w : Fin 32) : Rect S1024 := Rect.part (s := S1024) (a₀ := 0) i2div w
abbrev o2row (w : Fin 32) : Rect S1024x128 := Rect.part (s := S1024x128) (a₀ := 0) o2div w

/-- The tile's number. -/
def wid (c : Fin 2) (i : Fin 16) : Fin 32 := ⟨2 * i.val + c.val, by omega⟩

/-- The tiles are the 32 numbers. -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_) <;> simp only [wid] <;> omega
  right_inv w := by apply Fin.ext; simp only [wid]; omega

/-- A tile's share of a table. -/
abbrev tq (w : Fin 32) : PosShare TreeShare := leaf 5 fullShare w

/-! ## What a gather computes -/

/-- The index of a 512-row table at the row a list's word names. -/
def rowIx (w : BitVec 32) (k : Fin 128) : S512x128.Idx
  | 0 => ⟨w.toNat % 512, Nat.mod_lt _ (by norm_num)⟩
  | 1 => k
  | ⟨_ + 2, h⟩ => absurd h (Nat.not_lt.2 (Nat.le_add_left _ _))

/-- Index `k` of a list of 512 or 1024 words. -/
def ix0 (k : Fin 512) : S512.Idx
  | 0 => k
  | ⟨_ + 1, h⟩ => absurd h (Nat.not_lt.2 (Nat.le_add_left _ _))
def ix2 (k : Fin 1024) : S1024.Idx
  | 0 => k
  | ⟨_ + 1, h⟩ => absurd h (Nat.not_lt.2 (Nat.le_add_left _ _))

/-- The first gather's output: row `r` is the table's row the list names at `r`. -/
def gath0 (t : S512x128.Idx → Elt F .f32) (ix : S512.Idx → Elt F .i32) : S512x128.Idx → Elt F .f32 :=
  fun j => t (rowIx (ix (ix0 (j 0))) (j 1))
/-- The second gather's. -/
def gath2 (t : S512x128.Idx → Elt F .f32) (ix : S1024.Idx → Elt F .i32) : S1024x128.Idx → Elt F .f32 :=
  fun j => t (rowIx (ix (ix2 (j 0))) (j 1))

/-! ## The cuts -/

theorem pts_i0 (d : Dev nD) (f : Buf (Elt F) (i0Loc d)) :
    (i0Loc d ↦{fullShare} f : sProp 𝕄) = bigSep Finset.univ fun w : Fin 32 => i0Loc d ↦[(i0row w).set]{fullShare} f := by
  rw [← pointsTo_biUnion Finset.univ (ℓ := i0Loc d) (fun w => (i0row w).set) fun _ _ _ _ h => Rect.part_disjoint i0div h,
    show (Finset.univ : Finset (Fin 32)).biUnion (fun w => (i0row w).set) = Finset.univ from Rect.biUnion_part i0div]
theorem pts_o0 (d : Dev nD) (f : Buf (Elt F) (o0Loc d)) :
    (o0Loc d ↦{fullShare} f : sProp 𝕄) = bigSep Finset.univ fun w : Fin 32 => o0Loc d ↦[(o0row w).set]{fullShare} f := by
  rw [← pointsTo_biUnion Finset.univ (ℓ := o0Loc d) (fun w => (o0row w).set) fun _ _ _ _ h => Rect.part_disjoint o0div h,
    show (Finset.univ : Finset (Fin 32)).biUnion (fun w => (o0row w).set) = Finset.univ from Rect.biUnion_part o0div]
theorem pts_i2 (d : Dev nD) (f : Buf (Elt F) (i2Loc d)) :
    (i2Loc d ↦{fullShare} f : sProp 𝕄) = bigSep Finset.univ fun w : Fin 32 => i2Loc d ↦[(i2row w).set]{fullShare} f := by
  rw [← pointsTo_biUnion Finset.univ (ℓ := i2Loc d) (fun w => (i2row w).set) fun _ _ _ _ h => Rect.part_disjoint i2div h,
    show (Finset.univ : Finset (Fin 32)).biUnion (fun w => (i2row w).set) = Finset.univ from Rect.biUnion_part i2div]
theorem pts_o2 (d : Dev nD) (f : Buf (Elt F) (o2Loc d)) :
    (o2Loc d ↦{fullShare} f : sProp 𝕄) = bigSep Finset.univ fun w : Fin 32 => o2Loc d ↦[(o2row w).set]{fullShare} f := by
  rw [← pointsTo_biUnion Finset.univ (ℓ := o2Loc d) (fun w => (o2row w).set) fun _ _ _ _ h => Rect.part_disjoint o2div h,
    show (Finset.univ : Finset (Fin 32)).biUnion (fun w => (o2row w).set) = Finset.univ from Rect.biUnion_part o2div]

/-- A whole buffer is the tiles' shares of it. -/
theorem pts_shares {ℓ : Loc nD τ sig} (f : Buf (Elt F) ℓ) :
    (ℓ ↦{fullShare} f : sProp 𝕄) = bigSep Finset.univ fun w : Fin 32 => ℓ ↦{tq w} f :=
  pointsTo_leaves Finset.univ f 5 fullShare

/-- A family over the 32 numbers is the family over cores and subcores. -/
theorem bigSep_tiles (Φ : Fin 32 → sProp 𝕄) :
    (bigSep Finset.univ Φ) = bigSep Finset.univ fun c : Fin 2 => bigSep Finset.univ fun i : Fin 16 => Φ (wid c i) := by
  rw [bigSep_univ_equiv widEquiv Φ, bigSep_univ_prod]
  rfl

end Cert.Proof.Vq

end
-- ==== Proof.Tile0.lean ====
/-
  One tile of the first gather, at a symbolic core and subcore: it copies its block of the list into its list scratch,
  gathers those rows of the table into its row scratch, and copies them out to its block of the output. The whole is run
  once, for any table, any list with every word below 512, and any contents of the output.
-/
module

public import proofs.«01_k».proof.Proof.Common

@[expose] public section

noncomputable section

namespace Cert.Proof.Vq

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tV" => (Memref.whole Cert.KernelIdeal.main_v0_scv : Memref Cert.KernelIdeal.sig Kind.scVector Space.hbm Cert.KernelIdeal.S512x128 EltTy.f32)
local notation "iV" => (Memref.whole Cert.KernelIdeal.main_v1_scv : Memref Cert.KernelIdeal.sig Kind.scVector Space.hbm Cert.KernelIdeal.S512 EltTy.i32)
local notation "oV" => (Memref.whole Cert.KernelIdeal.main_v2_scv : Memref Cert.KernelIdeal.sig Kind.scVector Space.hbm Cert.KernelIdeal.S512x128 EltTy.f32)
local notation "sV" => (Memref.whole Cert.KernelIdeal.cc0_scratch0 : Memref Cert.KernelIdeal.sig Kind.scVector Space.vmem Cert.KernelIdeal.S16 EltTy.i32)
local notation "rV" => (Memref.whole Cert.KernelIdeal.cc0_scratch1 : Memref Cert.KernelIdeal.sig Kind.scVector Space.vmem Cert.KernelIdeal.S16x128 EltTy.f32)

variable [FloatOps F]

/-- What tile number `w` takes: its share of the table, its block of the list, its block of the output. -/
abbrev tile0 (d : Dev nD) (t : Buf (Elt F) (t0Loc d)) (ix : Buf (Elt F) (i0Loc d)) (g : Buf (Elt F) (o0Loc d)) (w : Fin 32) : sProp 𝕄 :=
  iprop((t0Loc d ↦{tq w} t) ∗ (i0Loc d ↦[(i0row w).set]{fullShare} ix) ∗ (o0Loc d ↦[(o0row w).set]{fullShare} g))

namespace Tile0

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The tile's number. -/
abbrev wL (L : grid0.Coords) : Fin 32 := wid (Fin.cast bound_zero (L 0)) (Fin.cast bound_one (L 1))

abbrev irowK (L : grid0.Coords) : Rect S512 := Rect.unit (s := S512) (k0_off1 L) S16.size (k0_off1_inb L)
abbrev orowK (L : grid0.Coords) : Rect S512x128 := Rect.unit (s := S512x128) (k0_off2 L) S16x128.size (k0_off2_inb L)
/-- The block of the list, the block of the output, and all of the table, as the tile addresses them. -/
abbrev iRowK (L : grid0.Coords) : Memref sig .scVector .hbm S16 .i32 := (iV).slice (irowK L) (fun _ => rfl)
abbrev oRowK (L : grid0.Coords) : Memref sig .scVector .hbm S16x128 .f32 := (oV).slice (orowK L) (fun _ => rfl)
abbrev tAllK : Memref sig .scVector .hbm S512x128 .f32 := (tV).slice (Rect.unit (s := S512x128) ![0, 0] S512x128.size inb_S512x128_S512x128_0_0) (fun _ => rfl)

omit [FloatOps F] in
theorem irowK_eq : irowK L = i0row (wL L) := by
  unfold irowK i0row Rect.part Rect.block
  congr 1 <;> funext a
  · rw [k0_off1_eq]
    match a with
    | 0 => simp only [Shape.partIx, Shape.partSize, wid, Fin.val_cast]; simp; omega
  · match a with
    | 0 => simp [Shape.partSize]
omit [FloatOps F] in
theorem orowK_eq : orowK L = o0row (wL L) := by
  unfold orowK o0row Rect.part Rect.block
  congr 1 <;> funext a
  · rw [k0_off2_eq]
    match a with
    | 0 => simp only [Shape.partIx, Shape.partSize, wid, Fin.val_cast]; simp; omega
    | 1 => simp [Shape.partIx, Shape.partSize]
  · match a with
    | 0 => simp [Shape.partSize]
    | 1 => simp [Shape.partSize]

omit [FloatOps F] in
theorem set_iRowK : (iRowK L).view.set = (i0row (wL L)).set := by
  show ((iV).view.slice (irowK L)).set = _
  rw [show ((iV).view.slice (irowK L)).set = (irowK L).set from
    ((View.set_slice _ _).trans Finset.map_refl), irowK_eq]
omit [FloatOps F] in
theorem set_oRowK : (oRowK L).view.set = (o0row (wL L)).set := by
  show ((oV).view.slice (orowK L)).set = _
  rw [show ((oV).view.slice (orowK L)).set = (orowK L).set from
    ((View.set_slice _ _).trans Finset.map_refl), orowK_eq]

omit [FloatOps F] in
theorem pts_iRowK (f : Buf (Elt F) (i0Loc d)) :
    ((iRowK L).view.loc (V d (cV L) (jV L)) ↦[(iRowK L).view.set]{fullShare} f : sProp 𝕄) = i0Loc d ↦[(i0row (wL L)).set]{fullShare} f := by
  rw [set_iRowK]
omit [FloatOps F] in
theorem pts_oRowK (f : Buf (Elt F) (o0Loc d)) :
    ((oRowK L).view.loc (V d (cV L) (jV L)) ↦[(oRowK L).view.set]{fullShare} f : sProp 𝕄) = o0Loc d ↦[(o0row (wL L)).set]{fullShare} f := by
  rw [set_oRowK]
omit [FloatOps F] in
theorem pts_tV (q : PosShare TreeShare) (f : Buf (Elt F) (t0Loc d)) :
    ((tV).view.loc (V d (cV L) (jV L)) ↦{q} f : sProp 𝕄) = t0Loc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three semaphores the tile waits on: the list's copy, the gather, the rows' copy. -/
abbrev cA (d : Dev nD) (c : Fin τ.nSC) (i : Fin τ.nSub) : GSem nD τ sig := (V d c i, .dma cc0_scoped0.sem)
abbrev cB (d : Dev nD) (c : Fin τ.nSC) (i : Fin τ.nSub) : GSem nD τ sig := (V d c i, .dma cc0_scratch2.sem)
abbrev cC (d : Dev nD) (c : Fin τ.nSC) (i : Fin τ.nSub) : GSem nD τ sig := (V d c i, .dma cc0_scoped1.sem)

omit [FloatOps F] in
/-- They are among the tile's own semaphores. -/
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scratch2.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped1.sem : SemLoc sig).isScoped .scVector = true; decide⟩⟩⟩)]

omit [FloatOps F] in
/-- The two scratch buffers are among the tile's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the list's copy leaves in the list scratch: the block's words. -/
theorem list_read (fs : Buf (Elt F) ((V d (cV L) (jV L)).loc cc0_scratch0)) (ix : Buf (Elt F) (i0Loc d)) (pay : S16.Idx → Elt F .i32)
    (hpay : pay = (iRowK L).view.read (Elt F) ix) (x : S16.Idx) :
    (sV).view.read (Elt F) (View.write (Elt F) (sV).view fs pay Finset.univ) x = ix ((irowK L).emb x) := by
  subst hpay
  rw [View.write_whole_univ]
  simp only [Memref.view_whole, View.read_whole]
  exact (View.read_apply _ _).trans (cast_eq _ _)

omit [FloatOps F] in
/-- A copy into the output's block whose words are the gather's leaves the gather's value there. -/
theorem out_value (t : Buf (Elt F) (t0Loc d)) (ix : Buf (Elt F) (i0Loc d)) (g : Buf (Elt F) (o0Loc d)) (pay : S16x128.Idx → Elt F .f32)
    (hpay : ∀ x, pay x = gath0 t ix ((orowK L).emb x)) :
    ∀ j ∈ (oRowK L).view.set, (oRowK L).view.writes (Elt F) g [⟨Rect.whole S16x128, pay⟩] j = gath0 t ix j := by
  intro j hj
  obtain ⟨x, -, rfl⟩ := Finset.mem_map.mp hj
  refine View.eq_of_read_eq (v := (oRowK L).view) (x := x) ?_
  have h := View.read_writes_cons_emb (Val := Elt F) (oRowK L).view g (Rect.whole S16x128) pay [] x
  rw [Rect.emb_whole_apply] at h
  rw [h, hpay]
  exact ((View.read_apply _ _).trans (cast_eq _ _)).symm

omit [FloatOps F] in
/-- The gathered rows, through the row scratch, are the gather's value at the output's block. -/
theorem rows_value (t : Buf (Elt F) (t0Loc d)) (ix : Buf (Elt F) (i0Loc d)) (hix : ∀ j : S512.Idx, ((ix j : Elt F .i32) : BitVec 32).toNat < 512)
    (fr : Buf (Elt F) ((V d (cV L) (jV L)).loc cc0_scratch1)) (ls : S16.Idx → Elt F .i32) (hls : ∀ x, ls x = ix ((irowK L).emb x))
    (hin : ∀ x, (ls x : BitVec 32).toNat < S512x128.size gathers_S512x128_S16x128.axis) (x : S16x128.Idx) :
    (rV).view.read (Elt F) ((rV).view.writes (Elt F) fr [⟨Rect.whole S16x128,
        SparseCore.gatherPayload gathers_S512x128_S16x128 ((tAllK).view.read (Elt F) t) (SparseCore.rows ls rfl hin)⟩]) x
      = gath0 t ix ((orowK L).emb x) := by
  have h := View.read_writes_cons_emb (Val := Elt F) (rV).view fr (Rect.whole S16x128)
    (SparseCore.gatherPayload gathers_S512x128_S16x128 ((tAllK).view.read (Elt F) t) (SparseCore.rows ls rfl hin)) [] x
  refine (congrArg _ (Rect.emb_whole_apply S16x128 x).symm).trans (h.trans ?_)
  unfold SparseCore.gatherPayload
  refine ((View.read_apply _ _).trans (cast_eq _ _)).trans ?_
  unfold gath0
  congr 1
  funext a
  apply Fin.ext
  match a with
  | 0 =>
    have h0 : gathers_S512x128_S16x128.idx (SparseCore.rows ls rfl hin) x 0 = SparseCore.rows ls rfl hin (x 0) :=
      Shape.Gathers.idx_axis gathers_S512x128_S16x128 (SparseCore.rows ls rfl hin) x
    show ((Rect.unit (s := S512x128) ![0, 0] S512x128.size inb_S512x128_S512x128_0_0).emb
      (gathers_S512x128_S16x128.idx (SparseCore.rows ls rfl hin) x) 0).val = _
    rw [Rect.emb_apply, h0]
    simp only [SparseCore.rows, hls, rowIx]
    have hx : (irowK L).emb (S16.rowMajor.symm ((x 0).cast rfl)) = ix0 ((orowK L).emb x 0) := by
      funext b
      match b with
      | 0 =>
        apply Fin.ext
        have hv : (S16.rowMajor.symm ((x 0).cast rfl) 0).val = (x 0).val := by
          rw [← Shape.rowMajor_val_one, Equiv.apply_symm_apply]; rfl
        show ((irowK L).emb (S16.rowMajor.symm ((x 0).cast rfl)) 0).val = ((orowK L).emb x 0).val
        rw [Rect.emb_apply, Rect.emb_apply]
        show k0_off1 L 0 + 1 * _ = k0_off2 L 0 + 1 * _
        rw [hv, k0_off1_eq, k0_off2_eq]; rfl
    rw [hx]
    show 0 + 1 * (ix (ix0 ((orowK L).emb x 0)) : BitVec 32).toNat = (ix (ix0 ((orowK L).emb x 0)) : BitVec 32).toNat % 512
    rw [Nat.mod_eq_of_lt (hix _)]
    omega
  | 1 =>
    have h1 := Shape.Gathers.idx_of_ne gathers_S512x128_S16x128 (SparseCore.rows ls rfl hin) x 1 (by decide)
    show ((Rect.unit (s := S512x128) ![0, 0] S512x128.size inb_S512x128_S512x128_0_0).emb
      (gathers_S512x128_S16x128.idx (SparseCore.rows ls rfl hin) x) 1).val = ((orowK L).emb x 1).val
    rw [Rect.emb_apply, h1, Rect.emb_apply]
    show 0 + 1 * _ = k0_off2 L 1 + 1 * _
    rw [k0_off2_eq]; rfl

set_option maxHeartbeats 4000000 in
/-- The tile's body. -/
theorem tile_body (hF : (K (F := F)).Facts) (t : Buf (Elt F) (t0Loc d)) (ix : Buf (Elt F) (i0Loc d)) (g : Buf (Elt F) (o0Loc d))
    (hix : ∀ j : S512.Idx, ((ix j : Elt F .i32) : BitVec 32).toNat < 512)
    (O : CellTallies nD τ sig (HIx 2)) (W : Waits sig (HIx 2)) (hO : ∀ g, O g none = 0) :
    iprop(levAts (K (F := F)).L (K (F := F)).lev ∗ emp
        ∗ tile0 d t ix g (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tV (Memref.isWhole_whole _) iV (Memref.isWhole_whole _) oV (Memref.isWhole_whole _)
            sV (Memref.isWhole_whole _) rV (Memref.isWhole_whole _) cc0_scratch2 cc0_scoped0 cc0_scoped1)
          fun _ => iprop(tile0 d t ix (gath0 t ix) (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  have hlist := list_read d L fs ix (tile_body.sl.dma0 d L ix) rfl
  have hin : ∀ x, ((sV).view.read (Elt F) (View.write (Elt F) (sV).view fs (tile_body.sl.dma0 d L ix) Finset.univ) x).toNat
      < S512x128.size gathers_S512x128_S16x128.axis := fun x => by rw [hlist]; exact hix _
  sl_exec
  sl_step
  isplitl [Hi' Ht' Ho']
  · isplitl [Ht']; · iexact Ht'
    isplitl [Hi']; · iapply (Entails.of_eq (pts_iRowK (F := F) d L _)); iexact Hi'
    iapply (Entails.of_eq (pts_oRowK (F := F) d L _))
    iapply (Entails.of_eq (pointsTo_congr (out_value d L t ix g _ fun x => rows_value d L t ix hix fr _ hlist hin x)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The tile's coordinates, core then subcore. -/
def coordsV (c : Fin (grid0.bound 0)) (s : Fin (grid0.bound 1)) : grid0.Coords :=
  fun | 0 => c | 1 => s | ⟨_ + 2, h⟩ => absurd h (Nat.not_lt.2 (Nat.le_add_left _ _))

/-- The tile's label runs the body at its coordinates. -/
theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

end Tile0

end Cert.Proof.Vq

end
-- ==== Proof.Tile2.lean ====
/-
  One tile of the second gather, at a symbolic core and subcore: it copies its block of the list into its list scratch,
  gathers those rows of the table into its row scratch, and copies them out to its block of the output. The whole is run
  once, for any table, any list with every word below 512, and any contents of the output.
-/
module

public import proofs.«01_k».proof.Proof.Common

@[expose] public section

noncomputable section

namespace Cert.Proof.Vq

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tV" => (Memref.whole Cert.KernelIdeal.main_v2_scv : Memref Cert.KernelIdeal.sig Kind.scVector Space.hbm Cert.KernelIdeal.S512x128 EltTy.f32)
local notation "iV" => (Memref.whole Cert.KernelIdeal.main_v9_scv : Memref Cert.KernelIdeal.sig Kind.scVector Space.hbm Cert.KernelIdeal.S1024 EltTy.i32)
local notation "oV" => (Memref.whole Cert.KernelIdeal.main_v10_scv : Memref Cert.KernelIdeal.sig Kind.scVector Space.hbm Cert.KernelIdeal.S1024x128 EltTy.f32)
local notation "sV" => (Memref.whole Cert.KernelIdeal.cc2_scratch0 : Memref Cert.KernelIdeal.sig Kind.scVector Space.vmem Cert.KernelIdeal.S32 EltTy.i32)
local notation "rV" => (Memref.whole Cert.KernelIdeal.cc2_scratch1 : Memref Cert.KernelIdeal.sig Kind.scVector Space.vmem Cert.KernelIdeal.S32x128 EltTy.f32)

variable [FloatOps F]

/-- What tile number `w` takes: its share of the table, its block of the list, its block of the output. -/
abbrev tile2 (d : Dev nD) (t : Buf (Elt F) (t2Loc d)) (ix : Buf (Elt F) (i2Loc d)) (g : Buf (Elt F) (o2Loc d)) (w : Fin 32) : sProp 𝕄 :=
  iprop((t2Loc d ↦{tq w} t) ∗ (i2Loc d ↦[(i2row w).set]{fullShare} ix) ∗ (o2Loc d ↦[(o2row w).set]{fullShare} g))

namespace Tile2

variable (d : Dev nD) (L : grid2.Coords)

abbrev cV (L : grid2.Coords) : Fin τ.nSC := (L 0).castLE hcore2
abbrev jV (L : grid2.Coords) : Fin τ.nSub := (L 1).castLE hsub2
omit [FloatOps F] in
theorem bound_zero : grid2.bound 0 = 2 := rfl
omit [FloatOps F] in
theorem bound_one : grid2.bound 1 = 16 := rfl
/-- The tile's number. -/
abbrev wL (L : grid2.Coords) : Fin 32 := wid (Fin.cast bound_zero (L 0)) (Fin.cast bound_one (L 1))

abbrev irowK (L : grid2.Coords) : Rect S1024 := Rect.unit (s := S1024) (k2_off1 L) S32.size (k2_off1_inb L)
abbrev orowK (L : grid2.Coords) : Rect S1024x128 := Rect.unit (s := S1024x128) (k2_off2 L) S32x128.size (k2_off2_inb L)
/-- The block of the list, the block of the output, and all of the table, as the tile addresses them. -/
abbrev iRowK (L : grid2.Coords) : Memref sig .scVector .hbm S32 .i32 := (iV).slice (irowK L) (fun _ => rfl)
abbrev oRowK (L : grid2.Coords) : Memref sig .scVector .hbm S32x128 .f32 := (oV).slice (orowK L) (fun _ => rfl)
abbrev tAllK : Memref sig .scVector .hbm S512x128 .f32 := (tV).slice (Rect.unit (s := S512x128) ![0, 0] S512x128.size inb_S512x128_S512x128_0_0) (fun _ => rfl)

omit [FloatOps F] in
theorem irowK_eq : irowK L = i2row (wL L) := by
  unfold irowK i2row Rect.part Rect.block
  congr 1 <;> funext a
  · rw [k2_off1_eq]
    match a with
    | 0 => simp only [Shape.partIx, Shape.partSize, wid, Fin.val_cast]; simp; omega
  · match a with
    | 0 => simp [Shape.partSize]
omit [FloatOps F] in
theorem orowK_eq : orowK L = o2row (wL L) := by
  unfold orowK o2row Rect.part Rect.block
  congr 1 <;> funext a
  · rw [k2_off2_eq]
    match a with
    | 0 => simp only [Shape.partIx, Shape.partSize, wid, Fin.val_cast]; simp; omega
    | 1 => simp [Shape.partIx, Shape.partSize]
  · match a with
    | 0 => simp [Shape.partSize]
    | 1 => simp [Shape.partSize]

omit [FloatOps F] in
theorem set_iRowK : (iRowK L).view.set = (i2row (wL L)).set := by
  show ((iV).view.slice (irowK L)).set = _
  rw [show ((iV).view.slice (irowK L)).set = (irowK L).set from
    ((View.set_slice _ _).trans Finset.map_refl), irowK_eq]
omit [FloatOps F] in
theorem set_oRowK : (oRowK L).view.set = (o2row (wL L)).set := by
  show ((oV).view.slice (orowK L)).set = _
  rw [show ((oV).view.slice (orowK L)).set = (orowK L).set from
    ((View.set_slice _ _).trans Finset.map_refl), orowK_eq]

omit [FloatOps F] in
theorem pts_iRowK (f : Buf (Elt F) (i2Loc d)) :
    ((iRowK L).view.loc (V d (cV L) (jV L)) ↦[(iRowK L).view.set]{fullShare} f : sProp 𝕄) = i2Loc d ↦[(i2row (wL L)).set]{fullShare} f := by
  rw [set_iRowK]
omit [FloatOps F] in
theorem pts_oRowK (f : Buf (Elt F) (o2Loc d)) :
    ((oRowK L).view.loc (V d (cV L) (jV L)) ↦[(oRowK L).view.set]{fullShare} f : sProp 𝕄) = o2Loc d ↦[(o2row (wL L)).set]{fullShare} f := by
  rw [set_oRowK]
omit [FloatOps F] in
theorem pts_tV (q : PosShare TreeShare) (f : Buf (Elt F) (t2Loc d)) :
    ((tV).view.loc (V d (cV L) (jV L)) ↦{q} f : sProp 𝕄) = t2Loc d ↦{q} f := rfl
omit [FloatOps F] in
theorem pts_sV (f : Buf (Elt F) ((V d (cV L) (jV L)).loc cc2_scratch0)) :
    ((sV).view.loc (V d (cV L) (jV L)) ↦{fullShare} f : sProp 𝕄) = (V d (cV L) (jV L)).loc cc2_scratch0 ↦{fullShare} f := rfl
omit [FloatOps F] in
theorem pts_rV (f : Buf (Elt F) ((V d (cV L) (jV L)).loc cc2_scratch1)) :
    ((rV).view.loc (V d (cV L) (jV L)) ↦{fullShare} f : sProp 𝕄) = (V d (cV L) (jV L)).loc cc2_scratch1 ↦{fullShare} f := rfl

/-- The three semaphores the tile waits on: the list's copy, the gather, the rows' copy. -/
abbrev cA (d : Dev nD) (c : Fin τ.nSC) (i : Fin τ.nSub) : GSem nD τ sig := (V d c i, .dma cc2_scoped0.sem)
abbrev cB (d : Dev nD) (c : Fin τ.nSC) (i : Fin τ.nSub) : GSem nD τ sig := (V d c i, .dma cc2_scratch2.sem)
abbrev cC (d : Dev nD) (c : Fin τ.nSC) (i : Fin τ.nSub) : GSem nD τ sig := (V d c i, .dma cc2_scoped1.sem)

omit [FloatOps F] in
/-- They are among the tile's own semaphores. -/
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc2_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc2_scratch2.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc2_scoped1.sem : SemLoc sig).isScoped .scVector = true; decide⟩⟩⟩)]

omit [FloatOps F] in
/-- The two scratch buffers are among the tile's own buffers. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-- What the list's copy leaves in the list scratch: the block's words. -/
theorem list_read (fs : Buf (Elt F) ((V d (cV L) (jV L)).loc cc2_scratch0)) (ix : Buf (Elt F) (i2Loc d)) (pay : S32.Idx → Elt F .i32)
    (hpay : pay = (iRowK L).view.read (Elt F) ix) (x : S32.Idx) :
    (sV).view.read (Elt F) (View.write (Elt F) (sV).view fs pay Finset.univ) x = ix ((irowK L).emb x) := by
  subst hpay
  rw [View.write_whole_univ]
  simp only [Memref.view_whole, View.read_whole]
  exact (View.read_apply _ _).trans (cast_eq _ _)

omit [FloatOps F] in
/-- A copy into the output's block whose words are the gather's leaves the gather's value there. -/
theorem out_value (t : Buf (Elt F) (t2Loc d)) (ix : Buf (Elt F) (i2Loc d)) (g : Buf (Elt F) (o2Loc d)) (pay : S32x128.Idx → Elt F .f32)
    (hpay : ∀ x, pay x = gath2 t ix ((orowK L).emb x)) :
    ∀ j ∈ (oRowK L).view.set, (oRowK L).view.writes (Elt F) g [⟨Rect.whole S32x128, pay⟩] j = gath2 t ix j := by
  intro j hj
  obtain ⟨x, -, rfl⟩ := Finset.mem_map.mp hj
  refine View.eq_of_read_eq (v := (oRowK L).view) (x := x) ?_
  have h := View.read_writes_cons_emb (Val := Elt F) (oRowK L).view g (Rect.whole S32x128) pay [] x
  rw [Rect.emb_whole_apply] at h
  rw [h, hpay]
  exact ((View.read_apply _ _).trans (cast_eq _ _)).symm

omit [FloatOps F] in
/-- The gathered rows, through the row scratch, are the gather's value at the output's block. -/
theorem rows_value (t : Buf (Elt F) (t2Loc d)) (ix : Buf (Elt F) (i2Loc d)) (hix : ∀ j : S1024.Idx, ((ix j : Elt F .i32) : BitVec 32).toNat < 512)
    (fr : Buf (Elt F) ((V d (cV L) (jV L)).loc cc2_scratch1)) (ls : S32.Idx → Elt F .i32) (hls : ∀ x, ls x = ix ((irowK L).emb x))
    (hin : ∀ x, (ls x : BitVec 32).toNat < S512x128.size gathers_S512x128_S32x128.axis) (x : S32x128.Idx) :
    (rV).view.read (Elt F) ((rV).view.writes (Elt F) fr [⟨Rect.whole S32x128,
        SparseCore.gatherPayload gathers_S512x128_S32x128 ((tAllK).view.read (Elt F) t) (SparseCore.rows ls rfl hin)⟩]) x
      = gath2 t ix ((orowK L).emb x) := by
  have h := View.read_writes_cons_emb (Val := Elt F) (rV).view fr (Rect.whole S32x128)
    (SparseCore.gatherPayload gathers_S512x128_S32x128 ((tAllK).view.read (Elt F) t) (SparseCore.rows ls rfl hin)) [] x
  refine (congrArg _ (Rect.emb_whole_apply S32x128 x).symm).trans (h.trans ?_)
  unfold SparseCore.gatherPayload
  refine ((View.read_apply _ _).trans (cast_eq _ _)).trans ?_
  unfold gath2
  congr 1
  funext a
  apply Fin.ext
  match a with
  | 0 =>
    have h0 : gathers_S512x128_S32x128.idx (SparseCore.rows ls rfl hin) x 0 = SparseCore.rows ls rfl hin (x 0) :=
      Shape.Gathers.idx_axis gathers_S512x128_S32x128 (SparseCore.rows ls rfl hin) x
    show ((Rect.unit (s := S512x128) ![0, 0] S512x128.size inb_S512x128_S512x128_0_0).emb
      (gathers_S512x128_S32x128.idx (SparseCore.rows ls rfl hin) x) 0).val = _
    rw [Rect.emb_apply, h0]
    simp only [SparseCore.rows, hls, rowIx]
    have hx : (irowK L).emb (S32.rowMajor.symm ((x 0).cast rfl)) = ix2 ((orowK L).emb x 0) := by
      funext b
      match b with
      | 0 =>
        apply Fin.ext
        have hv : (S32.rowMajor.symm ((x 0).cast rfl) 0).val = (x 0).val := by
          rw [← Shape.rowMajor_val_one, Equiv.apply_symm_apply]; rfl
        show ((irowK L).emb (S32.rowMajor.symm ((x 0).cast rfl)) 0).val = ((orowK L).emb x 0).val
        rw [Rect.emb_apply, Rect.emb_apply]
        show k2_off1 L 0 + 1 * _ = k2_off2 L 0 + 1 * _
        rw [hv, k2_off1_eq, k2_off2_eq]; rfl
    rw [hx]
    show 0 + 1 * (ix (ix2 ((orowK L).emb x 0)) : BitVec 32).toNat = (ix (ix2 ((orowK L).emb x 0)) : BitVec 32).toNat % 512
    rw [Nat.mod_eq_of_lt (hix _)]
    omega
  | 1 =>
    have h1 := Shape.Gathers.idx_of_ne gathers_S512x128_S32x128 (SparseCore.rows ls rfl hin) x 1 (by decide)
    show ((Rect.unit (s := S512x128) ![0, 0] S512x128.size inb_S512x128_S512x128_0_0).emb
      (gathers_S512x128_S32x128.idx (SparseCore.rows ls rfl hin) x) 1).val = ((orowK L).emb x 1).val
    rw [Rect.emb_apply, h1, Rect.emb_apply]
    show 0 + 1 * _ = k2_off2 L 1 + 1 * _
    rw [k2_off2_eq]; rfl

set_option maxHeartbeats 4000000 in
/-- The tile's body. -/
theorem tile_body (hF : (K (F := F)).Facts) (t : Buf (Elt F) (t2Loc d)) (ix : Buf (Elt F) (i2Loc d)) (g : Buf (Elt F) (o2Loc d))
    (hix : ∀ j : S1024.Idx, ((ix j : Elt F .i32) : BitVec 32).toNat < 512)
    (O : CellTallies nD τ sig (HIx 2)) (W : Waits sig (HIx 2)) (hO : ∀ g, O g none = 0) :
    iprop(levAts (K (F := F)).L (K (F := F)).lev ∗ emp
        ∗ tile2 d t ix g (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gather_kernel L tV (Memref.isWhole_whole _) iV (Memref.isWhole_whole _) oV (Memref.isWhole_whole _)
            sV (Memref.isWhole_whole _) rV (Memref.isWhole_whole _) cc2_scratch2 cc2_scoped0 cc2_scoped1)
          fun _ => iprop(tile2 d t ix (gath2 t ix) (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gather_kernel_eq_skeleton]; unfold cc2_gather_kernel_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  have hlist := list_read d L fs ix (tile_body.sl.dma0 d L ix) rfl
  have hin : ∀ x, ((sV).view.read (Elt F) (View.write (Elt F) (sV).view fs (tile_body.sl.dma0 d L ix) Finset.univ) x).toNat
      < S512x128.size gathers_S512x128_S32x128.axis := fun x => by rw [hlist]; exact hix _
  sl_exec
  sl_step
  isplitl [Hi' Ht' Ho']
  · isplitl [Ht']; · iexact Ht'
    isplitl [Hi']; · iapply (Entails.of_eq (pts_iRowK (F := F) d L _)); iexact Hi'
    iapply (Entails.of_eq (pts_oRowK (F := F) d L _))
    iapply (Entails.of_eq (pointsTo_congr (out_value d L t ix g _ fun x => rows_value d L t ix hix fr _ hlist hin x)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The tile's coordinates, core then subcore. -/
def coordsV (c : Fin (grid2.bound 0)) (s : Fin (grid2.bound 1)) : grid2.Coords :=
  fun | 0 => c | 1 => s | ⟨_ + 2, h⟩ => absurd h (Nat.not_lt.2 (Nat.le_add_left _ _))

/-- The tile's label runs the body at its coordinates. -/
theorem defs₀_vector (c : Fin τ.nSC) (s : Fin τ.nSub) :
    defs₀ (F := F) (.scVector c s) 2 ()
      = SparseCore.onTile hcore2 hsub2 (fun c s => cc2_gather_kernel (coordsV c s)
          tV (Memref.isWhole_whole _) iV (Memref.isWhole_whole _) oV (Memref.isWhole_whole _)
          sV (Memref.isWhole_whole _) rV (Memref.isWhole_whole _) cc2_scratch2 cc2_scoped0 cc2_scoped1) ⟨⟩ c s := rfl

end Tile2

end Cert.Proof.Vq

end
-- ==== Proof.Vals.lean ====
/-
  What every buffer of the host program holds between its pieces: the host's operations before, between and after the two
  SparseCore gathers and the TensorCore's kernel, as lists, and the contents after each piece as a function of the contents
  at the start. Every index the second gather reads is in range, whatever the floats are.
-/
module

public import proofs.«01_k».proof.Proof.Common
public import Idealize.ShloMosaic.Lib.WordArith
public import Idealize.ShloMosaic.Lib.Pointwise
public import Idealize.ShloMosaic.PureOps

@[expose] public section

set_option maxRecDepth 4096

noncomputable section

namespace Cert.Proof.Vq

open Cert.KernelIdeal Cert.KernelIdeal.Gen

open Idealize.ShloMosaic Idealize.ShloMosaic.TcCoe
open Idealize.ShloMosaic.StableHlo (after)

variable {F : FTy → Type} [FloatOps F]

/-! ## The host's operations -/

/-- The host's operations before the first gather: the codebook as 512 rows of 128, and the list 0..511. -/
def opsA : List (HloOp τ sig (Elt F)) :=
  [(StableHlo.reshape main_arg8 main_v0 (rfl : (.f32 : EltTy) = .f32) shapeCasts_S1024x64_S512x128),
   (StableHlo.nullary main_v1 (iotaInDim S512 32 0))]

/-- The host's operations between the first gather and the TensorCore's kernel: the biases as rows. -/
def opsB : List (HloOp τ sig (Elt F)) :=
  [(StableHlo.unary main_arg3 main_v3 (broadcastInDim S1x256 ![1] bcast_S256_S1x256_1 : (⟨S256, .f32⟩ : BufTy).Contents (Elt F) → (⟨S1x256, .f32⟩ : BufTy).Contents (Elt F))),
   (StableHlo.unary main_arg5 main_v4 (broadcastInDim S1x256 ![1] bcast_S256_S1x256_1 : (⟨S256, .f32⟩ : BufTy).Contents (Elt F) → (⟨S1x256, .f32⟩ : BufTy).Contents (Elt F))),
   (StableHlo.unary main_arg7 main_v5 (broadcastInDim S1x64 ![1] bcast_S64_S1x64_1 : (⟨S64, .f32⟩ : BufTy).Contents (Elt F) → (⟨S1x64, .f32⟩ : BufTy).Contents (Elt F)))]

/-- The host's operations between the kernel and the second gather: half of every index. -/
def opsC : List (HloOp τ sig (Elt F)) :=
  [(StableHlo.reshape main_v6_1 main_v7 (rfl : (.i32 : EltTy) = .i32) shapeCasts_S1024x1_S1024),
   (StableHlo.nullary main_c (constantI S_ 32 1#32)),
   (StableHlo.unary main_c main_v8 (broadcastInDim S1024 ![] bcast_S_S1024 : (⟨S_, .i32⟩ : BufTy).Contents (Elt F) → (⟨S1024, .i32⟩ : BufTy).Contents (Elt F))),
   (StableHlo.binary main_v7 main_v8 main_v9 (Host.shrsi : (⟨S1024, .i32⟩ : BufTy).Contents (Elt F) → (⟨S1024, .i32⟩ : BufTy).Contents (Elt F) → (⟨S1024, .i32⟩ : BufTy).Contents (Elt F)))]

/-- The host's operations after the second gather: the half of the row that the index's last bit names. -/
def opsD : List (HloOp τ sig (Elt F)) :=
  [(StableHlo.nullary main_c_0 (constantI S_ 32 1#32)),
   (StableHlo.unary main_c_0 main_v11 (broadcastInDim S1024 ![] bcast_S_S1024 : (⟨S_, .i32⟩ : BufTy).Contents (Elt F) → (⟨S1024, .i32⟩ : BufTy).Contents (Elt F))),
   (StableHlo.binary main_v7 main_v11 main_v12 (andi : (⟨S1024, .i32⟩ : BufTy).Contents (Elt F) → (⟨S1024, .i32⟩ : BufTy).Contents (Elt F) → (⟨S1024, .i32⟩ : BufTy).Contents (Elt F))),
   (StableHlo.unary main_v12 main_v13 (broadcastInDim S1024x1 ![0] bcast_S1024_S1024x1_0 : (⟨S1024, .i32⟩ : BufTy).Contents (Elt F) → (⟨S1024x1, .i32⟩ : BufTy).Contents (Elt F))),
   (StableHlo.nullary main_c_1 (constantI S_ 32 1#32)),
   (StableHlo.unary main_c_1 main_v14 (broadcastInDim S1024x1 ![] bcast_S_S1024x1 : (⟨S_, .i32⟩ : BufTy).Contents (Elt F) → (⟨S1024x1, .i32⟩ : BufTy).Contents (Elt F))),
   (StableHlo.binary main_v13 main_v14 main_v15 (cmpi .eq : (⟨S1024x1, .i32⟩ : BufTy).Contents (Elt F) → (⟨S1024x1, .i32⟩ : BufTy).Contents (Elt F) → (⟨S1024x1, .i1⟩ : BufTy).Contents (Elt F))),
   (StableHlo.unary main_v10 main_v16 ((extractStridedSlice S1024x64 ![0, 64] · slices_S1024x128_S1024x64_0_64) : (⟨S1024x128, .f32⟩ : BufTy).Contents (Elt F) → (⟨S1024x64, .f32⟩ : BufTy).Contents (Elt F))),
   (StableHlo.unary main_v10 main_v17 ((extractStridedSlice S1024x64 ![0, 0] · slices_S1024x128_S1024x64_0_0) : (⟨S1024x128, .f32⟩ : BufTy).Contents (Elt F) → (⟨S1024x64, .f32⟩ : BufTy).Contents (Elt F))),
   (StableHlo.TRef.unary (.of main_v15 : StableHlo.TRef sig ⟨S1024x1, .i1⟩) main_call0.v0 (broadcastInDim S1024x64 ![0, 1] bcast_S1024x1_S1024x64_0_1)),
   (StableHlo.TRef.ternary main_call0.v0 (.of main_v16 : StableHlo.TRef sig ⟨S1024x64, .f32⟩) (.of main_v17 : StableHlo.TRef sig ⟨S1024x64, .f32⟩) main_call0.v1 select)]

/-! ## The kernel's two results -/

/-- The encoded rows, -/
def uOf (V : Valuation τ sig (Elt F)) : S1024x64.Idx → Elt F .f32 :=
  k1_pay2 (V main_arg0) (V main_arg1) (V main_arg2) (V main_v3) (V main_arg4) (V main_v4) (V main_arg6) (V main_v5)
/-- and the index of the nearest codebook row of each. -/
def idxOf (V : Valuation τ sig (Elt F)) : S1024x1.Idx → Elt F .i32 :=
  k1_pay1 (k1_pay3 (V main_arg0) (V main_arg1) (V main_arg2) (V main_v3) (V main_arg4) (V main_v4) (V main_arg6) (V main_v5)) (V main_arg8)

/-! ## The contents after each piece -/

section
variable (V : Valuation τ sig (Elt F))

/-- Before the first gather, and after it; -/
def V1 : Valuation τ sig (Elt F) := after opsA V
def V2 : Valuation τ sig (Elt F) := Function.update (V1 V) main_v2 (gath0 (V1 V main_v0) (V1 V main_v1))
/-- before the TensorCore's kernel, and after it; -/
def V3 : Valuation τ sig (Elt F) := after opsB (V2 V)
def V4 : Valuation τ sig (Elt F) := Function.update (Function.update (V3 V) main_v6_0 (uOf (V3 V))) main_v6_1 (idxOf (V3 V))
/-- before the second gather, and after it; -/
def V5 : Valuation τ sig (Elt F) := after opsC (V4 V)
def V6 : Valuation τ sig (Elt F) := Function.update (V5 V) main_v10 (gath2 (V5 V main_v2) (V5 V main_v9))
/-- at the end. -/
def V7 : Valuation τ sig (Elt F) := after opsD (V6 V)

end

/-! ## The indices are in range -/

/-- A fold of the signed minimum over words below `2 ^ 31` is the least of their values. -/
theorem toNat_fold_minsi {α : Type} [DecidableEq α] (f : α → BitVec 32) (a : BitVec 32) (ha : a.toNat < 2 ^ 31) (S : Finset α)
    (hf : ∀ x ∈ S, (f x).toNat < 2 ^ 31) : (S.fold IntOp.minsi a f).toNat = S.fold min a.toNat fun x => (f x).toNat := by
  suffices h : (S.fold IntOp.minsi a f).toNat < 2 ^ 31 ∧ (S.fold IntOp.minsi a f).toNat = S.fold min a.toNat fun x => (f x).toNat from h.2
  induction S using Finset.cons_induction with
  | empty => exact ⟨ha, rfl⟩
  | cons x S hx ih =>
    have h := ih fun y hy => hf y (Finset.mem_cons_of_mem hy)
    have hx' := hf x (Finset.mem_cons_self x S)
    rw [Finset.fold_cons, Finset.fold_cons]
    have e := WordArith.toNat_minsi_of_lt (f x) (S.fold IntOp.minsi a f) hx' h.1
    exact ⟨by omega, by rw [e, h.2]⟩

/-- The kernel's scores: the product of the augmented rows with the augmented codebook. -/
def scores (a : FVec F S1024x65 .f32) (b : Vec F S1024x64 .f32) : FVec F S1024x1024 .f32 :=
  matmul dot_S1024x65_S1024x65_S1024x1024_1_1_0_0_n_n (some .fp32) a
    (concatenate S1024x65 1 [⟨S1024x64, b⟩, ⟨S1024x1, shapeCast S1024x1 (multiReduction .add [1] S1024 (mulf b b) 0x00000000#32 reduces_S1024x64_S1024 (.inl rfl) rfl) shapeCasts_S1024_S1024x1⟩]
      concatenates_S1024x64_S1024x1_S1024x65_d1) (constant S1024x1024 .f32 0x00000000#32)

/-- The index the kernel keeps of row `i`: the least column whose score is the row's least, `1023` standing for the others. -/
theorem pay1_apply (a : FVec F S1024x65 .f32) (b : Vec F S1024x64 .f32) (i : S1024x1.Idx) :
    k1_pay1 a b i = (Finset.univ : Finset (Fin 1024)).fold IntOp.minsi 2147483647#32 (fun k => Scalar.select
      (FloatOps.cmpf .oeq (scores a b (Idealize.ShloMosaic.ix2 (i 0) k)) (reduceFold reduces_S1024x1024_S1024 FloatOps.minimumf (FloatOps.ofBits .f32 0x7F800000#32) (scores a b) (ix1 (i 0))))
      (BitVec.ofNat 32 k.val) 1023#32) := by
  unfold k1_pay1
  simp only [pointwise, List.foldl_cons, List.foldl_nil, Nat.zero_mul, Nat.zero_add]
  rfl

/-- Every index is at most `1023`, whatever the floats are. -/
theorem idx_le (a : FVec F S1024x65 .f32) (b : Vec F S1024x64 .f32) (i : S1024x1.Idx) : (k1_pay1 a b i).toNat ≤ 1023 := by
  have h : ∀ (c : BitVec 1) (k : Fin 1024), (Scalar.select c (BitVec.ofNat 32 k.val) 1023#32).toNat ≤ 1023 := by
    intro c k
    unfold Scalar.select
    split
    · rw [BitVec.toNat_ofNat]; have := k.isLt; omega
    · exact le_refl _
  rw [pay1_apply, toNat_fold_minsi _ _ (by decide) _ fun k _ => lt_of_le_of_lt (h _ k) (by norm_num), Finset.fold_min_le]
  exact Or.inr ⟨0, Finset.mem_univ _, h _ _⟩

theorem idxOf_le (V : Valuation τ sig (Elt F)) (i : S1024x1.Idx) : (idxOf V i).toNat ≤ 1023 := idx_le _ _ _

/-- Shifting such an index right by one halves it. -/
theorem toNat_half (x : BitVec 32) (h : x.toNat ≤ 1023) : (IntOp.shrsi .host x 1#32).toNat = x.toNat / 2 := by
  unfold IntOp.shrsi
  have hm : x.msb = false := by rw [BitVec.msb_eq_false_iff_two_mul_lt]; omega
  rw [if_pos (by decide), BitVec.sshiftRight_eq', BitVec.sshiftRight_eq_of_msb_false hm, BitVec.toNat_ushiftRight, Nat.shiftRight_eq_div_pow]
  rfl

/-! ## What the pieces leave where they do not write, and the two lists of indices -/

section
variable (V : Valuation τ sig (Elt F))

/-- The first list of indices is `0, 1, …, 511`. -/
theorem V1_v1 : V1 V main_v1 = iotaInDim S512 32 0 := by
  unfold V1 opsA
  after_results

theorem hix0 (j : S512.Idx) : ((V1 V main_v1 : S512.Idx → BitVec 32) j).toNat < 512 := by
  rw [V1_v1]
  show (BitVec.ofNat 32 (j 0).val).toNat < 512
  rw [BitVec.toNat_ofNat]
  have : (j 0).val < 512 := (j 0).isLt
  omega

theorem V1_v0 : V1 V main_v0 = shapeCast S512x128 (V main_arg8) shapeCasts_S1024x64_S512x128 := by
  unfold V1 opsA
  after_results
  rfl

theorem V2_v2 : V2 V main_v2 = gath0 (V1 V main_v0) (V1 V main_v1) := Function.update_self ..
theorem V3_v2 : V3 V main_v2 = V2 V main_v2 := by
  unfold V3 opsB
  after_results
theorem V4_v2 : V4 V main_v2 = V3 V main_v2 := by
  unfold V4
  rw [Function.update_of_ne (by decide), Function.update_of_ne (by decide)]
theorem V4_v6_1 : V4 V main_v6_1 = idxOf (V3 V) := Function.update_self ..
theorem V4_v6_0 : V4 V main_v6_0 = uOf (V3 V) := by
  unfold V4
  rw [Function.update_of_ne (by decide), Function.update_self]
theorem V5_v2 : V5 V main_v2 = gath0 (V1 V main_v0) (V1 V main_v1) := by
  rw [← V2_v2, ← V3_v2, ← V4_v2]
  unfold V5 opsC
  after_results

/-- The indices as a list, -/
theorem V5_v7 : V5 V main_v7 = shapeCast S1024 (idxOf (V3 V)) shapeCasts_S1024x1_S1024 := by
  rw [← V4_v6_1]
  unfold V5 opsC
  after_results
  rfl

/-- and their halves. -/
theorem V5_v9 : V5 V main_v9 = Host.shrsi (shapeCast S1024 (idxOf (V3 V)) shapeCasts_S1024x1_S1024) (fun _ => 1#32) := by
  rw [← V4_v6_1]
  unfold V5 opsC
  after_results
  rfl

/-- The second list holds halves of indices below 1024. -/
theorem V5_v9_apply (j : S1024.Idx) : ((V5 V main_v9 : S1024.Idx → BitVec 32) j).toNat = (shapeCast S1024 (idxOf (V3 V)) shapeCasts_S1024x1_S1024 j).toNat / 2 := by
  rw [V5_v9]
  exact toNat_half _ (idxOf_le _ _)

theorem hix2 (j : S1024.Idx) : ((V5 V main_v9 : S1024.Idx → BitVec 32) j).toNat < 512 := by
  rw [V5_v9_apply]
  have h : (shapeCast S1024 (idxOf (V3 V)) shapeCasts_S1024x1_S1024 j).toNat ≤ 1023 := by
    unfold shapeCast
    exact idxOf_le _ _
  omega

/-! ## The second result -/

/-- The last bit of each index decides which half of its row is kept. -/
theorem V7_v18 : V7 V main_v18 = select
    (broadcastInDim S1024x64 ![0, 1] bcast_S1024x1_S1024x64_0_1 (cmpi .eq (broadcastInDim S1024x1 ![0] bcast_S1024_S1024x1_0
      (andi (V6 V main_v7) (broadcastInDim S1024 ![] bcast_S_S1024 (constantI S_ 32 1#32)))) (broadcastInDim S1024x1 ![] bcast_S_S1024x1 (constantI S_ 32 1#32))))
    (extractStridedSlice S1024x64 ![0, 64] (V6 V main_v10) slices_S1024x128_S1024x64_0_64)
    (extractStridedSlice S1024x64 ![0, 0] (V6 V main_v10) slices_S1024x128_S1024x64_0_0) := by
  unfold V7 opsD
  after_results
  rw [StableHlo.TRef.ofBuf_toBuf]
  have e15 : ∀ v : S1024x1.Idx → BitVec 1, (StableHlo.TRef.of main_v15 : StableHlo.TRef sig ⟨S1024x1, .i1⟩).ofBuf (Val := Elt F) v = v := fun _ => rfl
  have e16 : ∀ v : S1024x64.Idx → Elt F .f32, (StableHlo.TRef.of main_v16 : StableHlo.TRef sig ⟨S1024x64, .f32⟩).ofBuf (Val := Elt F) v = v := fun _ => rfl
  have e17 : ∀ v : S1024x64.Idx → Elt F .f32, (StableHlo.TRef.of main_v17 : StableHlo.TRef sig ⟨S1024x64, .f32⟩).ofBuf (Val := Elt F) v = v := fun _ => rfl
  have e18 : ∀ v : S1024x64.Idx → Elt F .f32, (StableHlo.TRef.of main_v18 : StableHlo.TRef sig ⟨S1024x64, .f32⟩).toBuf (Val := Elt F) v = v := fun _ => rfl
  exact (e18 _).trans (by rw [e15, e16, e17])

theorem V6_v10 : V6 V main_v10 = gath2 (V5 V main_v2) (V5 V main_v9) := Function.update_self ..
theorem V6_v7 : V6 V main_v7 = V5 V main_v7 := Function.update_of_ne (by decide) ..

/-- The first result stays what the kernel left. -/
theorem V7_v6_0 : V7 V main_v6_0 = uOf (V3 V) := by
  have h6 : V6 V main_v6_0 = V5 V main_v6_0 := Function.update_of_ne (by decide) ..
  have h7 : V7 V main_v6_0 = V6 V main_v6_0 := by
    unfold V7 opsD
    after_results
  have h5 : V5 V main_v6_0 = V4 V main_v6_0 := by
    unfold V5 opsC
    after_results
  rw [h7, h6, h5, V4_v6_0]

/-- What no piece writes stays. -/
theorem V3_of (b : Ref sig .tc) (h : b ∉ ([main_v0, main_v1, main_v2, main_v3, main_v4, main_v5] : List (Ref sig .tc))) : V3 V b = V b := by
  simp only [List.mem_cons, List.not_mem_nil, or_false, not_or] at h
  have h1 : V1 V b = V b := StableHlo.after_of_writes_sub opsA V (W := [main_v0, main_v1]) (StableHlo.forall_writes_sub_of_map rfl) (by simp [h])
  have h2 : V2 V b = V1 V b := Function.update_of_ne (StableHlo.devRef_ne_of_ne h.2.2.1) ..
  have h3 : V3 V b = V2 V b := StableHlo.after_of_writes_sub opsB (V2 V) (W := [main_v3, main_v4, main_v5]) (StableHlo.forall_writes_sub_of_map rfl) (by simp [h])
  rw [h3, h2, h1]

theorem V7_of (b : Ref sig .tc) (h : b ∉ ([main_v0, main_v1, main_v2, main_v3, main_v4, main_v5, main_v6_0, main_v6_1, main_v7, main_c, main_v8, main_v9, main_v10,
    main_c_0, main_v11, main_v12, main_v13, main_c_1, main_v14, main_v15, main_v16, main_v17, main_call0_v0, main_v18] : List (Ref sig .tc))) : V7 V b = V b := by
  simp only [List.mem_cons, List.not_mem_nil, or_false, not_or] at h
  have h3 : V3 V b = V b := V3_of V b (by simp [h])
  have h4 : V4 V b = V3 V b := (Function.update_of_ne (StableHlo.devRef_ne_of_ne (by simp [h])) ..).trans (Function.update_of_ne (StableHlo.devRef_ne_of_ne (by simp [h])) ..)
  have h5 : V5 V b = V4 V b := StableHlo.after_of_writes_sub opsC (V4 V) (W := [main_v7, main_c, main_v8, main_v9]) (StableHlo.forall_writes_sub_of_map rfl) (by simp [h])
  have h6 : V6 V b = V5 V b := Function.update_of_ne (StableHlo.devRef_ne_of_ne (by simp [h])) ..
  have h7 : V7 V b = V6 V b := StableHlo.after_of_writes_sub opsD (V6 V) (W := [main_c_0, main_v11, main_v12, main_v13, main_c_1, main_v14, main_v15, main_v16, main_v17, main_call0_v0, main_v18])
    (StableHlo.forall_writes_sub_of_map rfl) (by simp [h])
  rw [h7, h6, h5, h4, h3]

/-- The arguments end as they began. -/
theorem V7_args : V7 V main_arg0 = V main_arg0 ∧ V7 V main_arg1 = V main_arg1 ∧ V7 V main_arg2 = V main_arg2 ∧ V7 V main_arg3 = V main_arg3 ∧ V7 V main_arg4 = V main_arg4
    ∧ V7 V main_arg5 = V main_arg5 ∧ V7 V main_arg6 = V main_arg6 ∧ V7 V main_arg7 = V main_arg7 ∧ V7 V main_arg8 = V main_arg8 := by
  refine ⟨?_, ?_, ?_, ?_, ?_, ?_, ?_, ?_, ?_⟩ <;> exact V7_of V _ (by decide)

/-! ## The biases as rows -/

theorem V3_v3 : V3 V main_v3 = broadcastInDim S1x256 ![1] bcast_S256_S1x256_1 (V main_arg3) := by
  have h : V2 V main_arg3 = V main_arg3 := (Function.update_of_ne (by decide) ..).trans
    (StableHlo.after_of_writes_sub opsA V (W := [main_v0, main_v1]) (StableHlo.forall_writes_sub_of_map rfl) (by decide))
  rw [← h]
  unfold V3 opsB
  after_results

theorem V3_v4 : V3 V main_v4 = broadcastInDim S1x256 ![1] bcast_S256_S1x256_1 (V main_arg5) := by
  have h : V2 V main_arg5 = V main_arg5 := (Function.update_of_ne (by decide) ..).trans
    (StableHlo.after_of_writes_sub opsA V (W := [main_v0, main_v1]) (StableHlo.forall_writes_sub_of_map rfl) (by decide))
  rw [← h]
  unfold V3 opsB
  after_results

theorem V3_v5 : V3 V main_v5 = broadcastInDim S1x64 ![1] bcast_S64_S1x64_1 (V main_arg7) := by
  have h : V2 V main_arg7 = V main_arg7 := (Function.update_of_ne (by decide) ..).trans
    (StableHlo.after_of_writes_sub opsA V (W := [main_v0, main_v1]) (StableHlo.forall_writes_sub_of_map rfl) (by decide))
  rw [← h]
  unfold V3 opsB
  after_results

end

end Cert.Proof.Vq

end
-- ==== Proof.Pay.lean ====
/-
  What the two SparseCore calls hand to their tiles and get back, with the values: each tile takes its share of the table,
  its block of the list and its block of the output, and brings them back, the output's block holding the rows gathered.
  Each tile's obligation, and the calls' operands as the tiles' parts.
-/
module

public import proofs.«01_k».proof.Proof.Common
public import proofs.«01_k».proof.Proof.Tile0
public import proofs.«01_k».proof.Proof.Tile2
public import proofs.«01_k».proof.Proof.Vals

@[expose] public section

noncomputable section

namespace Cert.Proof.Vq

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-- What the device's buffers hold at the start. -/
abbrev W0 (d : Dev nD) : Valuation τ sig (Elt F) := StableHlo.launchContents m d

theorem nCore_zero : (K (F := F)).nCore 0 = 2 := rfl
theorem nSub_zero : (K (F := F)).nSub 0 = 16 := rfl
theorem nCore_one : (K (F := F)).nCore 1 = 2 := rfl
theorem nSub_one : (K (F := F)).nSub 1 = 16 := rfl

/-- Tile `w`'s part of the first call, before and after; -/
abbrev go0 (d : Dev nD) (w : Fin 32) : sProp 𝕄 := tile0 d (V1 (W0 m d) main_v0) (V1 (W0 m d) main_v1) (V1 (W0 m d) main_v2) w
abbrev td0 (d : Dev nD) (w : Fin 32) : sProp 𝕄 := tile0 d (V1 (W0 m d) main_v0) (V1 (W0 m d) main_v1) (gath0 (V1 (W0 m d) main_v0) (V1 (W0 m d) main_v1)) w
/-- and of the second. -/
abbrev go2 (d : Dev nD) (w : Fin 32) : sProp 𝕄 := tile2 d (V5 (W0 m d) main_v2) (V5 (W0 m d) main_v9) (V5 (W0 m d) main_v10) w
abbrev td2 (d : Dev nD) (w : Fin 32) : sProp 𝕄 := tile2 d (V5 (W0 m d) main_v2) (V5 (W0 m d) main_v9) (gath2 (V5 (W0 m d) main_v2) (V5 (W0 m d) main_v9)) w

/-- A SparseCore takes what its tiles take. -/
def P : (K (F := F)).Pay (nD := nD) (Val := Elt F) (Name := ℕ) (U := UU) where
  st := fun q d c => match q with
    | 0 => bigSep Finset.univ fun i : Fin 16 => go0 m d (wid (Fin.cast nCore_zero c) i)
    | 1 => bigSep Finset.univ fun i : Fin 16 => go2 m d (wid (Fin.cast nCore_one c) i)
  dn := fun q d c => match q with
    | 0 => bigSep Finset.univ fun i : Fin 16 => td0 m d (wid (Fin.cast nCore_zero c) i)
    | 1 => bigSep Finset.univ fun i : Fin 16 => td2 m d (wid (Fin.cast nCore_one c) i)
  go := fun q d c i => match q with
    | 0 => go0 m d (wid (Fin.cast nCore_zero c) (Fin.cast nSub_zero i))
    | 1 => go2 m d (wid (Fin.cast nCore_one c) (Fin.cast nSub_one i))
  td := fun q d c i => match q with
    | 0 => td0 m d (wid (Fin.cast nCore_zero c) (Fin.cast nSub_zero i))
    | 1 => td2 m d (wid (Fin.cast nCore_one c) (Fin.cast nSub_one i))
  x := fun _ _ => iprop(emp)

instance P_storable : (P (F := F) m).IsStorable where
  st q d c := match q with
    | 0 => (inferInstance : BI.Storable (upEmb : UEmb _ 𝕄) (bigSep Finset.univ fun i : Fin 16 => go0 m d (wid (Fin.cast nCore_zero c) i)))
    | 1 => (inferInstance : BI.Storable (upEmb : UEmb _ 𝕄) (bigSep Finset.univ fun i : Fin 16 => go2 m d (wid (Fin.cast nCore_one c) i)))
  dn q d c := match q with
    | 0 => (inferInstance : BI.Storable (upEmb : UEmb _ 𝕄) (bigSep Finset.univ fun i : Fin 16 => td0 m d (wid (Fin.cast nCore_zero c) i)))
    | 1 => (inferInstance : BI.Storable (upEmb : UEmb _ 𝕄) (bigSep Finset.univ fun i : Fin 16 => td2 m d (wid (Fin.cast nCore_one c) i)))
  go q d c i := match q with
    | 0 => (inferInstance : BI.Storable (upEmb : UEmb _ 𝕄) (go0 m d (wid (Fin.cast nCore_zero c) (Fin.cast nSub_zero i))))
    | 1 => (inferInstance : BI.Storable (upEmb : UEmb _ 𝕄) (go2 m d (wid (Fin.cast nCore_one c) (Fin.cast nSub_one i))))
  td q d c i := match q with
    | 0 => (inferInstance : BI.Storable (upEmb : UEmb _ 𝕄) (td0 m d (wid (Fin.cast nCore_zero c) (Fin.cast nSub_zero i))))
    | 1 => (inferInstance : BI.Storable (upEmb : UEmb _ 𝕄) (td2 m d (wid (Fin.cast nCore_one c) (Fin.cast nSub_one i))))

/-! ## The tiles' obligations -/

/-- A wait recorded without a rank is allowed whatever the call. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [Tile0.defs₀_vector]; simp only [SparseCore.onTile, hci, and_self, ↓reduceDIte]
  exact (Tile0.tile_body d (Tile0.coordsV ⟨_, hci.1⟩ ⟨_, hci.2⟩) facts (V1 (W0 m d) main_v0) (V1 (W0 m d) main_v1) (V1 (W0 m d) main_v2) (hix0 _) O W hO).trans
    (wp_mono frame _ _ fun _ => obl_post)

set_option maxRecDepth 16384 in
theorem tileObl2 : (K (F := F)).TileObl (D (F := F)) 𝒱 (P m) v₀ 1 := by
  intro d c i O W hO _ _
  simp only [show (P m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [Tile2.defs₀_vector]; simp only [SparseCore.onTile, hci, and_self, ↓reduceDIte]
  exact (Tile2.tile_body d (Tile2.coordsV ⟨_, hci.1⟩ ⟨_, hci.2⟩) facts (V5 (W0 m d) main_v2) (V5 (W0 m d) main_v9) (V5 (W0 m d) main_v10) (hix2 _) O W hO).trans
    (wp_mono frame _ _ fun _ => obl_post)

/-! ## The calls' operands -/

theorem bigSep_subs0 (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)
theorem bigSep_subs1 (Φ : Fin 16 → sProp 𝕄) : (bigSep Finset.univ fun i : Fin ((K (F := F)).nSub 1) => Φ (Fin.cast nSub_one i)) = bigSep Finset.univ Φ :=
  bigSep_congr fun _ _ => congrArg Φ (Fin.ext rfl)
theorem bigSep_cores0 (Φ : Fin 2 → sProp 𝕄) : (bigSep Finset.univ fun i : Fin ((K (F := F)).nCore 0) => Φ (Fin.cast nCore_zero i)) = bigSep Finset.univ Φ :=
  bigSep_congr fun _ _ => congrArg Φ (Fin.ext rfl)
theorem bigSep_cores1 (Φ : Fin 2 → sProp 𝕄) : (bigSep Finset.univ fun i : Fin ((K (F := F)).nCore 1) => Φ (Fin.cast nCore_one i)) = bigSep Finset.univ Φ :=
  bigSep_congr fun _ _ => congrArg Φ (Fin.ext rfl)

theorem vecSplit0 : (K (F := F)).VecSplit' (P m) 0 := by
  intro d c
  show (bigSep Finset.univ fun i : Fin 16 => go0 m d (wid (Fin.cast nCore_zero c) i)) ⊢ |={Set.univ}=> iprop(
      (bigSep Finset.univ fun i : Fin ((K (F := F)).nSub 0) => go0 m d (wid (Fin.cast nCore_zero c) (Fin.cast nSub_zero i)))
      ∗ ((bigSep Finset.univ fun i : Fin ((K (F := F)).nSub 0) => td0 m d (wid (Fin.cast nCore_zero c) (Fin.cast nSub_zero i)))
          -∗ bigSep Finset.univ fun i : Fin 16 => td0 m d (wid (Fin.cast nCore_zero c) i)))
  rw [bigSep_subs0 (F := F) (fun i => go0 m d (wid (Fin.cast nCore_zero c) i)), bigSep_subs0 (F := F) (fun i => td0 m d (wid (Fin.cast nCore_zero c) i))]
  iintro H; imodintro
  isplitl [H]; · iexact H
  iintro H; iexact H

theorem vecSplit2 : (K (F := F)).VecSplit' (P m) 1 := by
  intro d c
  show (bigSep Finset.univ fun i : Fin 16 => go2 m d (wid (Fin.cast nCore_one c) i)) ⊢ |={Set.univ}=> iprop(
      (bigSep Finset.univ fun i : Fin ((K (F := F)).nSub 1) => go2 m d (wid (Fin.cast nCore_one c) (Fin.cast nSub_one i)))
      ∗ ((bigSep Finset.univ fun i : Fin ((K (F := F)).nSub 1) => td2 m d (wid (Fin.cast nCore_one c) (Fin.cast nSub_one i)))
          -∗ bigSep Finset.univ fun i : Fin 16 => td2 m d (wid (Fin.cast nCore_one c) i)))
  rw [bigSep_subs1 (F := F) (fun i => go2 m d (wid (Fin.cast nCore_one c) i)), bigSep_subs1 (F := F) (fun i => td2 m d (wid (Fin.cast nCore_one c) i))]
  iintro H; imodintro
  isplitl [H]; · iexact H
  iintro H; iexact H

/-- The first call's operands whole are the SparseCores' parts, before -/
theorem st0_eq (d : Dev nD) : (bigSep Finset.univ fun c : Fin ((K (F := F)).nCore 0) => (P m).st 0 d c)
    = iprop((t0Loc d ↦{fullShare} V1 (W0 m d) main_v0) ∗ (i0Loc d ↦{fullShare} V1 (W0 m d) main_v1) ∗ (o0Loc d ↦{fullShare} V1 (W0 m d) main_v2)) := by
  show (bigSep Finset.univ fun c : Fin ((K (F := F)).nCore 0) => bigSep Finset.univ fun i : Fin 16 => go0 m d (wid (Fin.cast nCore_zero c) i)) = _
  rw [bigSep_cores0 (F := F) (fun c => bigSep Finset.univ fun i : Fin 16 => go0 m d (wid c i)), ← bigSep_tiles (F := F) (go0 m d), pts_shares, pts_i0, pts_o0,
    bigSep_sep', bigSep_sep']
/-- and after. -/
theorem dn0_eq (d : Dev nD) : (bigSep Finset.univ fun c : Fin ((K (F := F)).nCore 0) => (P m).dn 0 d c)
    = iprop((t0Loc d ↦{fullShare} V1 (W0 m d) main_v0) ∗ (i0Loc d ↦{fullShare} V1 (W0 m d) main_v1)
      ∗ (o0Loc d ↦{fullShare} gath0 (V1 (W0 m d) main_v0) (V1 (W0 m d) main_v1))) := by
  show (bigSep Finset.univ fun c : Fin ((K (F := F)).nCore 0) => bigSep Finset.univ fun i : Fin 16 => td0 m d (wid (Fin.cast nCore_zero c) i)) = _
  rw [bigSep_cores0 (F := F) (fun c => bigSep Finset.univ fun i : Fin 16 => td0 m d (wid c i)), ← bigSep_tiles (F := F) (td0 m d), pts_shares, pts_i0, pts_o0,
    bigSep_sep', bigSep_sep']
/-- The second's, before -/
theorem st2_eq (d : Dev nD) : (bigSep Finset.univ fun c : Fin ((K (F := F)).nCore 1) => (P m).st 1 d c)
    = iprop((t2Loc d ↦{fullShare} V5 (W0 m d) main_v2) ∗ (i2Loc d ↦{fullShare} V5 (W0 m d) main_v9) ∗ (o2Loc d ↦{fullShare} V5 (W0 m d) main_v10)) := by
  show (bigSep Finset.univ fun c : Fin ((K (F := F)).nCore 1) => bigSep Finset.univ fun i : Fin 16 => go2 m d (wid (Fin.cast nCore_one c) i)) = _
  rw [bigSep_cores1 (F := F) (fun c => bigSep Finset.univ fun i : Fin 16 => go2 m d (wid c i)), ← bigSep_tiles (F := F) (go2 m d), pts_shares, pts_i2, pts_o2,
    bigSep_sep', bigSep_sep']
/-- and after. -/
theorem dn2_eq (d : Dev nD) : (bigSep Finset.univ fun c : Fin ((K (F := F)).nCore 1) => (P m).dn 1 d c)
    = iprop((t2Loc d ↦{fullShare} V5 (W0 m d) main_v2) ∗ (i2Loc d ↦{fullShare} V5 (W0 m d) main_v9)
      ∗ (o2Loc d ↦{fullShare} gath2 (V5 (W0 m d) main_v2) (V5 (W0 m d) main_v9))) := by
  show (bigSep Finset.univ fun c : Fin ((K (F := F)).nCore 1) => bigSep Finset.univ fun i : Fin 16 => td2 m d (wid (Fin.cast nCore_one c) i)) = _
  rw [bigSep_cores1 (F := F) (fun c => bigSep Finset.univ fun i : Fin 16 => td2 m d (wid c i)), ← bigSep_tiles (F := F) (td2 m d), pts_shares, pts_i2, pts_o2,
    bigSep_sep', bigSep_sep']

end Cert.Proof.Vq

end
-- ==== Proof.Body.lean ====
/-
  The TensorCore kernel's body run once: from its eleven staging buffers held whole it runs to its return, the encoded rows
  left in the ninth and their indices in the tenth, the others as they were.
-/
module

public import proofs.«01_k».proof.Proof.Common
public import proofs.«01_k».proof.Proof.Vals
public import Idealize.ShloMosaic.Lib.Pipeline.ValueKit

@[expose] public section

noncomputable section

namespace Cert.Proof.Vq

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type} [FloatOps F]

local notation "𝕄" => MT nD τ sig (HIx 2) (Elt F) ℕ UU ℕ

/-- Memref `M`'s buffer on core `c`, held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The zero offsets. -/
theorem off_zero : (![0, 0] : Fin 2 → Nat) = fun _ => 0 := by
  funext a
  match a with
  | 0 => rfl
  | 1 => rfl

/-- The body's run. -/
theorem body_run (c : Dev nD) (i : grid1.Coords) (x0 : S1024x128.Idx → Elt F .f32) (x1 : S1024x512.Idx → Elt F .f32) (x2 : S640x256.Idx → Elt F .f32) (x3 : S1x256.Idx → Elt F .f32)
    (x4 : S256x256.Idx → Elt F .f32) (x5 : S1x256.Idx → Elt F .f32) (x6 : S256x64.Idx → Elt F .f32) (x7 : S1x64.Idx → Elt F .f32) (x8 : S1024x64.Idx → Elt F .f32)
    (f9 : S1024x64.Idx → Elt F .f32) (f10 : S1024x1.Idx → Elt F .i32) (E : Set ℕ) (Q : PUnit → sProp 𝕄) :
    iprop(pt c (stage1_0 0) x0 ∗ pt c (stage1_1 0) x1 ∗ pt c (stage1_2 0) x2 ∗ pt c (stage1_3 0) x3 ∗ pt c (stage1_4 0) x4 ∗ pt c (stage1_5 0) x5 ∗ pt c (stage1_6 0) x6
        ∗ pt c (stage1_7 0) x7 ∗ pt c (stage1_8 0) x8 ∗ pt c (stage1_9 0) f9 ∗ pt c (stage1_10 0) f10
        ∗ (iprop(pt c (stage1_0 0) x0 ∗ pt c (stage1_1 0) x1 ∗ pt c (stage1_2 0) x2 ∗ pt c (stage1_3 0) x3 ∗ pt c (stage1_4 0) x4 ∗ pt c (stage1_5 0) x5 ∗ pt c (stage1_6 0) x6
          ∗ pt c (stage1_7 0) x7 ∗ pt c (stage1_8 0) x8 ∗ pt c (stage1_9 0) (k1_pay2 x0 x1 x2 x3 x4 x5 x6 x7)
          ∗ pt c (stage1_10 0) (k1_pay1 (k1_pay3 x0 x1 x2 x3 x4 x5 x6 x7) x8)) -∗ Q ⟨⟩))
      ⊢ wp frame (wpE (defs₀ (F := F)) 𝒱₀ c none) E (cc1__vq_body i (stage1_0 0) (hstage1_0 0) (stage1_1 0) (hstage1_1 0) (stage1_2 0) (hstage1_2 0) (stage1_3 0) (hstage1_3 0)
          (stage1_4 0) (hstage1_4 0) (stage1_5 0) (hstage1_5 0) (stage1_6 0) (hstage1_6 0) (stage1_7 0) (hstage1_7 0) (stage1_8 0) (hstage1_8 0) (stage1_9 0) (hstage1_9 0)
          (stage1_10 0) (hstage1_10 0)) Q := by
  rw [cc1__vq_body_eq_skeleton]; unfold cc1__vq_body_skel
  rw [k1_part1_eq_skeleton]; unfold k1_part1_skel
  iintro ⟨H0, H1, H2, H3, H4, H5, H6, H7, H8, H9, H10, Hk⟩
  sl_exec
  sl_step
  have e0 : View.readAt (Elt F) (stage1_0 0).view (Rect.unit (s := S1024x128) ![0, 0] S1024x128.size inb_S1024x128_S1024x128_0_0).toLoadRect x0 = x0 :=
    Memref.readAt_unit_zero (Elt F) cc1_stg0_0 (off := ![0, 0]) off_zero inb_S1024x128_S1024x128_0_0 x0
  have e1 : View.readAt (Elt F) (stage1_1 0).view (Rect.unit (s := S1024x512) ![0, 0] S1024x512.size inb_S1024x512_S1024x512_0_0).toLoadRect x1 = x1 :=
    Memref.readAt_unit_zero (Elt F) cc1_stg1_0 (off := ![0, 0]) off_zero inb_S1024x512_S1024x512_0_0 x1
  have e2 : View.readAt (Elt F) (stage1_2 0).view (Rect.unit (s := S640x256) ![0, 0] S640x256.size inb_S640x256_S640x256_0_0).toLoadRect x2 = x2 :=
    Memref.readAt_unit_zero (Elt F) cc1_stg2_0 (off := ![0, 0]) off_zero inb_S640x256_S640x256_0_0 x2
  have e3 : View.readAt (Elt F) (stage1_3 0).view (Rect.unit (s := S1x256) ![0, 0] S1x256.size inb_S1x256_S1x256_0_0).toLoadRect x3 = x3 :=
    Memref.readAt_unit_zero (Elt F) cc1_stg3_0 (off := ![0, 0]) off_zero inb_S1x256_S1x256_0_0 x3
  have e4 : View.readAt (Elt F) (stage1_4 0).view (Rect.unit (s := S256x256) ![0, 0] S256x256.size inb_S256x256_S256x256_0_0).toLoadRect x4 = x4 :=
    Memref.readAt_unit_zero (Elt F) cc1_stg4_0 (off := ![0, 0]) off_zero inb_S256x256_S256x256_0_0 x4
  have e5 : View.readAt (Elt F) (stage1_5 0).view (Rect.unit (s := S1x256) ![0, 0] S1x256.size inb_S1x256_S1x256_0_0).toLoadRect x5 = x5 :=
    Memref.readAt_unit_zero (Elt F) cc1_stg5_0 (off := ![0, 0]) off_zero inb_S1x256_S1x256_0_0 x5
  have e6 : View.readAt (Elt F) (stage1_6 0).view (Rect.unit (s := S256x64) ![0, 0] S256x64.size inb_S256x64_S256x64_0_0).toLoadRect x6 = x6 :=
    Memref.readAt_unit_zero (Elt F) cc1_stg6_0 (off := ![0, 0]) off_zero inb_S256x64_S256x64_0_0 x6
  have e7 : View.readAt (Elt F) (stage1_7 0).view (Rect.unit (s := S1x64) ![0, 0] S1x64.size inb_S1x64_S1x64_0_0).toLoadRect x7 = x7 :=
    Memref.readAt_unit_zero (Elt F) cc1_stg7_0 (off := ![0, 0]) off_zero inb_S1x64_S1x64_0_0 x7
  have e8 : View.readAt (Elt F) (stage1_8 0).view (Rect.unit (s := S1024x64) ![0, 0] S1024x64.size inb_S1024x64_S1024x64_0_0).toLoadRect x8 = x8 :=
    Memref.readAt_unit_zero (Elt F) cc1_stg8_0 (off := ![0, 0]) off_zero inb_S1024x64_S1024x64_0_0 x8
  have e9 : ∀ w : S1024x64.Idx → Elt F .f32, (stage1_9 0).view.writes (Elt F) f9 [⟨Rect.unit (s := S1024x64) ![0, 0] S1024x64.size inb_S1024x64_S1024x64_0_0, w⟩] = w := fun w =>
    Memref.write_access_unit_zero_univ (Elt F) cc1_stg9_0 (off := ![0, 0]) off_zero inb_S1024x64_S1024x64_0_0 f9 w
  have e10 : ∀ w : S1024x1.Idx → Elt F .i32, (stage1_10 0).view.writes (Elt F) f10 [⟨Rect.unit (s := S1024x1) ![0, 0] S1024x1.size inb_S1024x1_S1024x1_0_0, w⟩] = w := fun w =>
    Memref.write_access_unit_zero_univ (Elt F) cc1_stg10_0 (off := ![0, 0]) off_zero inb_S1024x1_S1024x1_0_0 f10 w
  rw [e0, e1, e2, e3, e4, e5, e6, e7, e8, e9, e10]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.Vq

end
-- ==== Proof.Region.lean ====
/-
  The TensorCore's kernel as a region of @main: entered with every buffer at the contents before it, left with its two
  results written and the rest as it was.
-/
module

public import proofs.«01_k».proof.Proof.Common
public import proofs.«01_k».proof.Proof.Vals
public import proofs.«01_k».proof.Proof.Body
public import Idealize.ShloMosaic.Lib.Pipeline.ValueKit

@[expose] public section

noncomputable section

namespace Cert.Proof.Vq

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)
open Idealize.ShloMosaic.Pipeline (Dat Cfg Window BodyObligation cellOf)

variable {F : FTy → Type} [FloatOps F]

local notation "𝕄" => MT nD τ sig (HIx 2) (Elt F) ℕ UU ℕ

/-! ## The proof data, at the contents on entry -/

variable (V : (c : Dev nD) → (b : Ref sig .tc) → Buf (Elt F) ((c : Thread nD τ).loc b))

/-- Each input window's block as the fetch stages it. -/
abbrev stg0 (c : Dev nD) : (cfg1.win 0).block.Idx → Elt F (cfg1.win 0).elt := ((cfg1.win 0).blk t1_0).view.read (Elt F) (V c (Pipeline.arrRef spec1 0))
abbrev stg1 (c : Dev nD) : (cfg1.win 1).block.Idx → Elt F (cfg1.win 1).elt := ((cfg1.win 1).blk t1_0).view.read (Elt F) (V c (Pipeline.arrRef spec1 1))
abbrev stg2 (c : Dev nD) : (cfg1.win 2).block.Idx → Elt F (cfg1.win 2).elt := ((cfg1.win 2).blk t1_0).view.read (Elt F) (V c (Pipeline.arrRef spec1 2))
abbrev stg3 (c : Dev nD) : (cfg1.win 3).block.Idx → Elt F (cfg1.win 3).elt := ((cfg1.win 3).blk t1_0).view.read (Elt F) (V c (Pipeline.arrRef spec1 3))
abbrev stg4 (c : Dev nD) : (cfg1.win 4).block.Idx → Elt F (cfg1.win 4).elt := ((cfg1.win 4).blk t1_0).view.read (Elt F) (V c (Pipeline.arrRef spec1 4))
abbrev stg5 (c : Dev nD) : (cfg1.win 5).block.Idx → Elt F (cfg1.win 5).elt := ((cfg1.win 5).blk t1_0).view.read (Elt F) (V c (Pipeline.arrRef spec1 5))
abbrev stg6 (c : Dev nD) : (cfg1.win 6).block.Idx → Elt F (cfg1.win 6).elt := ((cfg1.win 6).blk t1_0).view.read (Elt F) (V c (Pipeline.arrRef spec1 6))
abbrev stg7 (c : Dev nD) : (cfg1.win 7).block.Idx → Elt F (cfg1.win 7).elt := ((cfg1.win 7).blk t1_0).view.read (Elt F) (V c (Pipeline.arrRef spec1 7))
abbrev stg8 (c : Dev nD) : (cfg1.win 8).block.Idx → Elt F (cfg1.win 8).elt := ((cfg1.win 8).blk t1_0).view.read (Elt F) (V c (Pipeline.arrRef spec1 8))

/-- What the region keeps beside its windows: the scoped buffers no window stages. -/
abbrev Φc (c : Dev nD) : sProp 𝕄 := Pipeline.scopedRest (Ix := HIx 2) (Name := ℕ) (U := UU) (Lvl := ℕ) (Val := Elt F) spec1 c

/-- The waits recorded before the region: those at a level up to `b`. -/
abbrev recd (b : ℕ) (c : Dev nD) : Set (SemLoc sig × HIx 2) := {p | (K (F := F)).lev (SparseCore.T c, p.1) p.2 ≤ b}

/-- The proof data: the arrays at their contents on entry; after the body the inputs' buffers as fetched and the results'
    at the body's values; what the core owes to the second gather, throughout. -/
def dat (b : ℕ) (c : Dev nD) : Dat τ (Elt F) (HIx 2) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => stg6 V c
    | ⟨7, _⟩ => stg7 V c
    | ⟨8, _⟩ => stg8 V c
    | ⟨9, _⟩ => k1_pay2 (stg0 V c) (stg1 V c) (stg2 V c) (stg3 V c) (stg4 V c) (stg5 V c) (stg6 V c) (stg7 V c)
    | ⟨10, _⟩ => k1_pay1 (k1_pay3 (stg0 V c) (stg1 V c) (stg2 V c) (stg3 V c) (stg4 V c) (stg5 V c) (stg6 V c) (stg7 V c)) (stg8 V c)
  Φ _ := Φc c
  q _ := fullShare
  owed _ := (K (F := F)).Otc c 1
  recorded _ := recd (F := F) b c

/-- The proof data of every pipeline of the program: there is one. -/
def pdats (b : ℕ) : (p : Fin 1) → (c : Dev nD) → Dat τ (Elt F) (HIx 2) ℕ UU ℕ (Pipeline.pin (pcfgs (F := F)) adm p) c
  | ⟨0, _⟩ => fun c => dat V b c

theorem before_0 (b : ℕ) (c : Dev nD) (d) : (dat V b c).before 0 t1_0 d = stg0 V c := by unfold Dat.before; rw [if_pos (by decide)]; rfl
theorem before_1 (b : ℕ) (c : Dev nD) (d) : (dat V b c).before 1 t1_0 d = stg1 V c := by unfold Dat.before; rw [if_pos (by decide)]; rfl
theorem before_2 (b : ℕ) (c : Dev nD) (d) : (dat V b c).before 2 t1_0 d = stg2 V c := by unfold Dat.before; rw [if_pos (by decide)]; rfl
theorem before_3 (b : ℕ) (c : Dev nD) (d) : (dat V b c).before 3 t1_0 d = stg3 V c := by unfold Dat.before; rw [if_pos (by decide)]; rfl
theorem before_4 (b : ℕ) (c : Dev nD) (d) : (dat V b c).before 4 t1_0 d = stg4 V c := by unfold Dat.before; rw [if_pos (by decide)]; rfl
theorem before_5 (b : ℕ) (c : Dev nD) (d) : (dat V b c).before 5 t1_0 d = stg5 V c := by unfold Dat.before; rw [if_pos (by decide)]; rfl
theorem before_6 (b : ℕ) (c : Dev nD) (d) : (dat V b c).before 6 t1_0 d = stg6 V c := by unfold Dat.before; rw [if_pos (by decide)]; rfl
theorem before_7 (b : ℕ) (c : Dev nD) (d) : (dat V b c).before 7 t1_0 d = stg7 V c := by unfold Dat.before; rw [if_pos (by decide)]; rfl
theorem before_8 (b : ℕ) (c : Dev nD) (d) : (dat V b c).before 8 t1_0 d = stg8 V c := by unfold Dat.before; rw [if_pos (by decide)]; rfl

/-- Each window's staging buffer held at some contents, as a points-to. -/
theorem owns_0 (c : Dev nD) (X : (cfg1.win 0).block.Idx → Elt F (cfg1.win 0).elt) :
    (owns (c : Thread nD τ) (stage1_0 (cfg1.slots t1_0 0)) fullShare X : sProp 𝕄) = iprop(∃ f : Bf (F := F) c (stage1_0 0), ⌜f = X⌝ ∗ pt c (stage1_0 0) f) :=
  owns_whole_eq (c : Thread nD τ) cc1_stg0_0 fullShare X
theorem owns_1 (c : Dev nD) (X : (cfg1.win 1).block.Idx → Elt F (cfg1.win 1).elt) :
    (owns (c : Thread nD τ) (stage1_1 (cfg1.slots t1_0 1)) fullShare X : sProp 𝕄) = iprop(∃ f : Bf (F := F) c (stage1_1 0), ⌜f = X⌝ ∗ pt c (stage1_1 0) f) :=
  owns_whole_eq (c : Thread nD τ) cc1_stg1_0 fullShare X
theorem owns_2 (c : Dev nD) (X : (cfg1.win 2).block.Idx → Elt F (cfg1.win 2).elt) :
    (owns (c : Thread nD τ) (stage1_2 (cfg1.slots t1_0 2)) fullShare X : sProp 𝕄) = iprop(∃ f : Bf (F := F) c (stage1_2 0), ⌜f = X⌝ ∗ pt c (stage1_2 0) f) :=
  owns_whole_eq (c : Thread nD τ) cc1_stg2_0 fullShare X
theorem owns_3 (c : Dev nD) (X : (cfg1.win 3).block.Idx → Elt F (cfg1.win 3).elt) :
    (owns (c : Thread nD τ) (stage1_3 (cfg1.slots t1_0 3)) fullShare X : sProp 𝕄) = iprop(∃ f : Bf (F := F) c (stage1_3 0), ⌜f = X⌝ ∗ pt c (stage1_3 0) f) :=
  owns_whole_eq (c : Thread nD τ) cc1_stg3_0 fullShare X
theorem owns_4 (c : Dev nD) (X : (cfg1.win 4).block.Idx → Elt F (cfg1.win 4).elt) :
    (owns (c : Thread nD τ) (stage1_4 (cfg1.slots t1_0 4)) fullShare X : sProp 𝕄) = iprop(∃ f : Bf (F := F) c (stage1_4 0), ⌜f = X⌝ ∗ pt c (stage1_4 0) f) :=
  owns_whole_eq (c : Thread nD τ) cc1_stg4_0 fullShare X
theorem owns_5 (c : Dev nD) (X : (cfg1.win 5).block.Idx → Elt F (cfg1.win 5).elt) :
    (owns (c : Thread nD τ) (stage1_5 (cfg1.slots t1_0 5)) fullShare X : sProp 𝕄) = iprop(∃ f : Bf (F := F) c (stage1_5 0), ⌜f = X⌝ ∗ pt c (stage1_5 0) f) :=
  owns_whole_eq (c : Thread nD τ) cc1_stg5_0 fullShare X
theorem owns_6 (c : Dev nD) (X : (cfg1.win 6).block.Idx → Elt F (cfg1.win 6).elt) :
    (owns (c : Thread nD τ) (stage1_6 (cfg1.slots t1_0 6)) fullShare X : sProp 𝕄) = iprop(∃ f : Bf (F := F) c (stage1_6 0), ⌜f = X⌝ ∗ pt c (stage1_6 0) f) :=
  owns_whole_eq (c : Thread nD τ) cc1_stg6_0 fullShare X
theorem owns_7 (c : Dev nD) (X : (cfg1.win 7).block.Idx → Elt F (cfg1.win 7).elt) :
    (owns (c : Thread nD τ) (stage1_7 (cfg1.slots t1_0 7)) fullShare X : sProp 𝕄) = iprop(∃ f : Bf (F := F) c (stage1_7 0), ⌜f = X⌝ ∗ pt c (stage1_7 0) f) :=
  owns_whole_eq (c : Thread nD τ) cc1_stg7_0 fullShare X
theorem owns_8 (c : Dev nD) (X : (cfg1.win 8).block.Idx → Elt F (cfg1.win 8).elt) :
    (owns (c : Thread nD τ) (stage1_8 (cfg1.slots t1_0 8)) fullShare X : sProp 𝕄) = iprop(∃ f : Bf (F := F) c (stage1_8 0), ⌜f = X⌝ ∗ pt c (stage1_8 0) f) :=
  owns_whole_eq (c : Thread nD τ) cc1_stg8_0 fullShare X
theorem owns_9 (c : Dev nD) (X : (cfg1.win 9).block.Idx → Elt F (cfg1.win 9).elt) :
    (owns (c : Thread nD τ) (stage1_9 (cfg1.slots t1_0 9)) fullShare X : sProp 𝕄) = iprop(∃ f : Bf (F := F) c (stage1_9 0), ⌜f = X⌝ ∗ pt c (stage1_9 0) f) :=
  owns_whole_eq (c : Thread nD τ) cc1_stg9_0 fullShare X
theorem owns_10 (c : Dev nD) (X : (cfg1.win 10).block.Idx → Elt F (cfg1.win 10).elt) :
    (owns (c : Thread nD τ) (stage1_10 (cfg1.slots t1_0 10)) fullShare X : sProp 𝕄) = iprop(∃ f : Bf (F := F) c (stage1_10 0), ⌜f = X⌝ ∗ pt c (stage1_10 0) f) :=
  owns_whole_eq (c : Thread nD τ) cc1_stg10_0 fullShare X

/-- The body's obligation: its run, at the staged blocks. -/
theorem body_obligation (b : ℕ) (c : Dev nD) : BodyObligation (dat V b c) (defs₀ (F := F)) 𝒱₀ none Set.univ := fun t => by
  obtain rfl := fin_N1 t
  rw [bigSep_W1, bigSep_W1]
  simp only [owns_0, owns_1, owns_2, owns_3, owns_4, owns_5, owns_6, owns_7, owns_8, owns_9, owns_10]
  rw [show (dat V b c).Φ t1_0.castSucc = Φc c from rfl, show (dat V b c).Φ t1_0.succ = Φc c from rfl,
    show (dat V b c).owesAt none t1_0.succ = (dat V b c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩,
    ⟨%d6, %f6, %hf6, H6⟩, ⟨%d7, %f7, %hf7, H7⟩, ⟨%d8, %f8, %hf8, H8⟩, ⟨%d9, %f9, -, H9⟩, ⟨%d10, %f10, -, H10⟩⟩
  rw [before_0] at hf0
  rw [before_1] at hf1
  rw [before_2] at hf2
  rw [before_3] at hf3
  rw [before_4] at hf4
  rw [before_5] at hf5
  rw [before_6] at hf6
  rw [before_7] at hf7
  rw [before_8] at hf8
  subst hf0 hf1 hf2 hf3 hf4 hf5 hf6 hf7 hf8
  iapply (body_run c (grid1.coords t1_0) (stg0 V c) (stg1 V c) (stg2 V c) (stg3 V c) (stg4 V c) (stg5 V c) (stg6 V c) (stg7 V c) (stg8 V c) f9 f10 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; dsimp only [dat]
  isplitl [H8]; · iexists _; isplitr; swap; (· iexact H8); ipureintro; dsimp only [dat]
  isplitl [H9]; · iexists _; isplitr; swap; (· iexact H9); ipureintro; dsimp only [dat]
  iexists _; isplitr; swap; (· iexact H10); ipureintro; dsimp only [dat]

/-! ## The two results -/

/-- Every window's block is its whole array. -/
theorem win_idx : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0] ∧ win1_8.index t = ![0, 0]
    ∧ win1_9.index t = ![0, 0] ∧ win1_10.index t = ![0, 0] :=
  (by decide +kernel : ∀ t : Fin grid1.N, _)

theorem stg_0 (c : Dev nD) : stg0 V c = V c main_arg0 := by blk_ext! [stg0, win_idx t1_0]
theorem stg_1 (c : Dev nD) : stg1 V c = V c main_arg1 := by blk_ext! [stg1, win_idx t1_0]
theorem stg_2 (c : Dev nD) : stg2 V c = V c main_arg2 := by blk_ext! [stg2, win_idx t1_0]
theorem stg_3 (c : Dev nD) : stg3 V c = V c main_v3 := by blk_ext! [stg3, win_idx t1_0]
theorem stg_4 (c : Dev nD) : stg4 V c = V c main_arg4 := by blk_ext! [stg4, win_idx t1_0]
theorem stg_5 (c : Dev nD) : stg5 V c = V c main_v4 := by blk_ext! [stg5, win_idx t1_0]
theorem stg_6 (c : Dev nD) : stg6 V c = V c main_arg6 := by blk_ext! [stg6, win_idx t1_0]
theorem stg_7 (c : Dev nD) : stg7 V c = V c main_v5 := by blk_ext! [stg7, win_idx t1_0]
theorem stg_8 (c : Dev nD) : stg8 V c = V c main_arg8 := by blk_ext! [stg8, win_idx t1_0]

/-- The encoded rows, -/
theorem final_9 (b : ℕ) (c : Dev nD) : (dat V b c).arrAt 9 cfg1.N
    = k1_pay2 (V c main_arg0) (V c main_arg1) (V c main_arg2) (V c main_v3) (V c main_arg4) (V c main_v4) (V c main_arg6) (V c main_v5) := by
  refine (dat V b c).arrAt_eq_of_after_last 9 t1_0 (by decide +kernel) _ fun j => ?_
  blk_simp
  dsimp only [dat]
  rw [stg_0, stg_1, stg_2, stg_3, stg_4, stg_5, stg_6, stg_7]
/-- and their indices. -/
theorem final_10 (b : ℕ) (c : Dev nD) : (dat V b c).arrAt 10 cfg1.N
    = k1_pay1 (k1_pay3 (V c main_arg0) (V c main_arg1) (V c main_arg2) (V c main_v3) (V c main_arg4) (V c main_v4) (V c main_arg6) (V c main_v5)) (V c main_arg8) := by
  refine (dat V b c).arrAt_eq_of_after_last 10 t1_0 (by decide +kernel) _ fun j => ?_
  blk_simp
  dsimp only [dat]
  rw [stg_0, stg_1, stg_2, stg_3, stg_4, stg_5, stg_6, stg_7, stg_8]

end Cert.Proof.Vq

end
-- ==== Proof.Seg.lean ====
/-
  The TensorCore's kernel as a segment of @main: entered with every unscoped buffer at some contents and with what the core
  still owes to the second gather, left with the kernel's two results written.
-/
module

public import proofs.«01_k».proof.Proof.Region

@[expose] public section

noncomputable section

namespace Cert.Proof.Vq

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)
open Idealize.ShloMosaic.Pipeline (Dat Cfg Window BodyObligation cellOf)

variable {F : FTy → Type} [FloatOps F]

local notation "𝕄" => MT nD τ sig (HIx 2) (Elt F) ℕ UU ℕ

/-- What the core owes to a gather carries a rank. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply, if_neg fun h => nomatch h.2]
  · rfl

variable (V : (c : Dev nD) → (b : Ref sig .tc) → Buf (Elt F) ((c : Thread nD τ).loc b))
variable (Vp : (c : Dev nD) → (b : Ref sig .tc) → Buf (Elt F) ((c : Thread nD τ).loc b))

/-- What the core owes between the gathers, the waits recorded so far at levels up to `b`. -/
abbrev owing (b : ℕ) (c : Dev nD) : sProp 𝕄 :=
  iprop(∃ W, ⌜(K (F := F)).WBelow (SparseCore.T c) W b⌝ ∗ owes (SparseCore.T c) ((K (F := F)).Otc c 1) W)

set_option backward.isDefEq.respectTransparency.types false in
/-- The segment. -/
def reg (b : ℕ)
    (hout9 : ∀ c, Vp c main_v6_0 = k1_pay2 (V c main_arg0) (V c main_arg1) (V c main_arg2) (V c main_v3) (V c main_arg4) (V c main_v4) (V c main_arg6) (V c main_v5))
    (hout10 : ∀ c, Vp c main_v6_1 = k1_pay1 (k1_pay3 (V c main_arg0) (V c main_arg1) (V c main_arg2) (V c main_v3) (V c main_arg4) (V c main_v4) (V c main_arg6) (V c main_v5)) (V c main_arg8))
    (hVp : ∀ c (r : Ref sig .tc), r ≠ main_v6_0 → r ≠ main_v6_1 → Vp c r = V c r) :
    Pipeline.RegionSeg (pcfgs (F := F)) adm (pdats V b) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V b c).loose
  hwaits c := Pipeline.cellsWaits_intro (Pipeline.pin (pcfgs (F := F)) adm) (pdats V b) none 0 c fun w s t =>
    (K (F := F)).mayWait_none _ (fun g => Otc_none c 1 g)
  pre c := iprop(unscopedBufs c (V c) ∗ owing (F := F) b c)
  post c := iprop(unscopedBufs c (Vp c) ∗ owing (F := F) b c)
  X _ := BI.emp
  Y _ := BI.emp
  Z c := iprop(Pipeline.unscopedRest (Ix := HIx 2) (Name := ℕ) (U := UU) (Lvl := ℕ) spec1 c (V c))
  hentry c := by
    rw [Pipeline.ownSems0_none]
    have hsplit := Pipeline.arrays_of_unscopedBufs (p := 0) (pcfgs (F := F)) adm (pdats V b) launch1.win launch1.arr_whole c
      ((pdats V b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V b 0 c).Φ 0 = Φc c from rfl]
    iintro ⟨-, -, Hr⟩; iexact Hr
  hout c := by
    rw [Pipeline.ownSems0_none, show (pdats V b 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) launch1.win launch1.arr_whole c
      (pdats V b) ((pdats V b 0 c).share_full fun _ => rfl) (V c) (Vp c) ((pdats V b 0 c).arrAt · cfg1.N)
      (fun w => by
        fin_cases w
        · exact ((pdats V b 0 c).arrAt_in 0 rfl _).trans (hVp c main_arg0 (by decide) (by decide)).symm
        · exact ((pdats V b 0 c).arrAt_in 1 rfl _).trans (hVp c main_arg1 (by decide) (by decide)).symm
        · exact ((pdats V b 0 c).arrAt_in 2 rfl _).trans (hVp c main_arg2 (by decide) (by decide)).symm
        · exact ((pdats V b 0 c).arrAt_in 3 rfl _).trans (hVp c main_v3 (by decide) (by decide)).symm
        · exact ((pdats V b 0 c).arrAt_in 4 rfl _).trans (hVp c main_arg4 (by decide) (by decide)).symm
        · exact ((pdats V b 0 c).arrAt_in 5 rfl _).trans (hVp c main_v4 (by decide) (by decide)).symm
        · exact ((pdats V b 0 c).arrAt_in 6 rfl _).trans (hVp c main_arg6 (by decide) (by decide)).symm
        · exact ((pdats V b 0 c).arrAt_in 7 rfl _).trans (hVp c main_v5 (by decide) (by decide)).symm
        · exact ((pdats V b 0 c).arrAt_in 8 rfl _).trans (hVp c main_arg8 (by decide) (by decide)).symm
        · exact (final_9 V b c).trans (hout9 c).symm
        · exact (final_10 V b c).trans (hout10 c).symm)
      (fun r hr => hVp c r (fun h => hr (h ▸ Finset.mem_image.mpr ⟨9, Finset.mem_univ _, rfl⟩)) (fun h => hr (h ▸ Finset.mem_image.mpr ⟨10, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Vq

end
-- ==== Proof.Main.lean ====
/-
  The whole program's run: @main on the TensorCore through its host operations, its two calls and its kernel, and from it
  the contents every buffer ends with, over any float values.
-/
module

public import proofs.«01_k».proof.Proof.Pay
public import proofs.«01_k».proof.Proof.Seg

@[expose] public section

noncomputable section

namespace Cert.Proof.Vq

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The buffers the host's thread holds -/

/-- The TensorCore's unscoped buffers. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The first gather's three buffers, and the second's. -/
def refs0 : Finset (DevRef τ sig) := {(main_v0 : DevRef τ sig), (main_v1 : DevRef τ sig), (main_v2 : DevRef τ sig)}
def refs2 : Finset (DevRef τ sig) := {(main_v2 : DevRef τ sig), (main_v9 : DevRef τ sig), (main_v10 : DevRef τ sig)}

theorem refs0_sub : refs0 ⊆ ucRefs := by decide
theorem refs2_sub : refs2 ⊆ ucRefs := by decide

theorem mem_v2_refs0 : (main_v2 : DevRef τ sig) ∈ refs0 := by decide
theorem mem_v10_refs2 : (main_v10 : DevRef τ sig) ∈ refs2 := by decide

theorem held_refs0 (d : Dev nD) (W : Valuation τ sig (Elt F)) : (StableHlo.held (d : Thread nD τ) refs0 W : sProp 𝕄)
    = iprop((t0Loc d ↦{fullShare} W main_v0) ∗ (i0Loc d ↦{fullShare} W main_v1) ∗ (o0Loc d ↦{fullShare} W main_v2)) := by
  unfold StableHlo.held refs0
  rw [SparseCore.bigSep_insert' (by decide), SparseCore.bigSep_insert' (by decide), bigSep_singleton]
theorem held_refs2 (d : Dev nD) (W : Valuation τ sig (Elt F)) : (StableHlo.held (d : Thread nD τ) refs2 W : sProp 𝕄)
    = iprop((t2Loc d ↦{fullShare} W main_v2) ∗ (i2Loc d ↦{fullShare} W main_v9) ∗ (o2Loc d ↦{fullShare} W main_v10)) := by
  unfold StableHlo.held refs2
  rw [SparseCore.bigSep_insert' (by decide), SparseCore.bigSep_insert' (by decide), bigSep_singleton]

section
variable (d : Dev nD)

/-- The other buffers are as before the gather. -/
theorem rest0 : (StableHlo.held (d : Thread nD τ) (ucRefs \ refs0) (V2 (W0 m d)) : sProp 𝕄) = StableHlo.held (d : Thread nD τ) (ucRefs \ refs0) (V1 (W0 m d)) :=
  StableHlo.held_congr _ fun b hb => by
    unfold V2
    exact Function.update_of_ne (ne_of_mem_of_not_mem hb fun h => (Finset.mem_sdiff.1 h).2 mem_v2_refs0) ..
/-- The first gather's operands out of the unscoped buffers, -/
theorem open0 : (StableHlo.held (d : Thread nD τ) ucRefs (V1 (W0 m d)) : sProp 𝕄)
    = iprop((bigSep Finset.univ fun c : Fin ((K (F := F)).nCore 0) => (P m).st 0 d c) ∗ StableHlo.held (d : Thread nD τ) (ucRefs \ refs0) (V1 (W0 m d))) := by
  rw [StableHlo.held_sub_split _ refs0_sub, held_refs0, st0_eq]
/-- and back. -/
theorem close0 : iprop((bigSep Finset.univ fun c : Fin ((K (F := F)).nCore 0) => (P m).dn 0 d c) ∗ StableHlo.held (d : Thread nD τ) (ucRefs \ refs0) (V1 (W0 m d)))
    = (StableHlo.held (d : Thread nD τ) ucRefs (V2 (W0 m d)) : sProp 𝕄) := by
  rw [StableHlo.held_sub_split _ refs0_sub (V2 (W0 m d)), held_refs0, dn0_eq, V2_v2,
    show V2 (W0 m d) main_v0 = V1 (W0 m d) main_v0 from Function.update_of_ne (by decide) .., show V2 (W0 m d) main_v1 = V1 (W0 m d) main_v1 from Function.update_of_ne (by decide) .., rest0]
/-- The other buffers are as before the gather. -/
theorem rest2 : (StableHlo.held (d : Thread nD τ) (ucRefs \ refs2) (V6 (W0 m d)) : sProp 𝕄) = StableHlo.held (d : Thread nD τ) (ucRefs \ refs2) (V5 (W0 m d)) :=
  StableHlo.held_congr _ fun b hb => by
    unfold V6
    exact Function.update_of_ne (ne_of_mem_of_not_mem hb fun h => (Finset.mem_sdiff.1 h).2 mem_v10_refs2) ..
/-- The second's, -/
theorem open2 : (StableHlo.held (d : Thread nD τ) ucRefs (V5 (W0 m d)) : sProp 𝕄)
    = iprop((bigSep Finset.univ fun c : Fin ((K (F := F)).nCore 1) => (P m).st 1 d c) ∗ StableHlo.held (d : Thread nD τ) (ucRefs \ refs2) (V5 (W0 m d))) := by
  rw [StableHlo.held_sub_split _ refs2_sub, held_refs2, st2_eq]
/-- and back. -/
theorem close2 : iprop((bigSep Finset.univ fun c : Fin ((K (F := F)).nCore 1) => (P m).dn 1 d c) ∗ StableHlo.held (d : Thread nD τ) (ucRefs \ refs2) (V5 (W0 m d)))
    = (StableHlo.held (d : Thread nD τ) ucRefs (V6 (W0 m d)) : sProp 𝕄) := by
  rw [StableHlo.held_sub_split _ refs2_sub (V6 (W0 m d)), held_refs2, dn2_eq, V6_v10,
    show V6 (W0 m d) main_v2 = V5 (W0 m d) main_v2 from Function.update_of_ne (by decide) .., show V6 (W0 m d) main_v9 = V5 (W0 m d) main_v9 from Function.update_of_ne (by decide) .., rest2]

end

/-! ## The launch's ghost state -/

/-- The pipeline's part of it. -/
abbrev pipe₀ : UR sig nD τ := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (pipe₀ (F := F), 1))

/-- What @main's thread takes of it: the pipeline's ghost state. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_fin1 (Φ : Fin 1 → sProp 𝕄) : bigSep Finset.univ Φ = Φ 0 := bigSep_univ_of_subsingleton (0 : Fin 1)

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks) ((pipe₀ (F := F), 1) : UR sig nD τ × Counters)) $$ Hu
  icases H with ⟨HH, HR⟩
  ihave H := (own_pair_emb embR (pipe₀ (F := F)) (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · simp only [bigSep_fin1]; iexact Hg
    · simp only [bigSep_fin1]; iexact Ht
  rw [show (bigSep Finset.univ fun thr : Thread nD τ => bigSep Finset.univ fun q : Fin 2 => (P (F := F) m).x q thr) = bigSep Finset.univ fun _ => iprop(emp) from
    bigSep_congr fun _ _ => bigSep_emp_const _, emp_all]
  iempintro

/-! ## @main -/

/-- @main is its pieces one after another. -/
theorem main_eq (d : Dev nD) : (main d : Prog (TpuEff nD τ sig (Elt F) _ .tc) PUnit)
    = (StableHlo.seq opsA >>= fun _ => sc.run d 0 >>= fun _ => StableHlo.seq opsB >>= fun _ => Prog.lift (.customCall (SparseCore.inner (Pipeline.entry 0)) ()) >>= fun _ =>
        StableHlo.seq opsC >>= fun _ => sc.run d 1 >>= fun _ => StableHlo.seq opsD >>= fun _ => pure ⟨⟩) := by
  rfl

end Cert.Proof.Vq

end
-- ==== Proof.Whole.lean ====
/-
  The run of @main put together, and the contents every buffer ends with.
-/
module

public import proofs.«01_k».proof.Proof.Main

@[expose] public section

noncomputable section

namespace Cert.Proof.Vq

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The pieces' rules -/

/-- A list of host operations at the head of the thread: the unscoped buffers go to the contents after it. -/
theorem host_step (d : Dev nD) (ops : List (HloOp τ sig (Elt F))) (hS : ∀ op ∈ ops, op.bufs ⊆ ucRefs) (hf : ∀ op ∈ ops, op.fresh = ∅) (W : Valuation τ sig (Elt F))
    {β : Type} (k : PUnit → Prog (TpuEff nD τ sig (Elt F) (SparseCore.Sig (ΛP (F := F)) 2) .tc) β) {Q : β → sProp 𝕄} :
    iprop((boundary (d : Thread nD τ) ∗ StableHlo.held (d : Thread nD τ) ucRefs W)
        ∗ ((boundary (d : Thread nD τ) ∗ StableHlo.held (d : Thread nD τ) ucRefs (StableHlo.after ops W))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (StableHlo.seq ops >>= k) Q := by
  iintro ⟨H, Hk⟩
  iapply (StableHlo.wp_seq (defs := (K (F := F)).defs (D (F := F))) 𝒱 none Set.univ d ucRefs k ops hS hf W) $$ H
  iexact Hk

theorem nD_T (d : Dev nD) : ((d : Thread nD τ)) = SparseCore.T d := rfl

/-- The kernel's segment between the contents before it and after it. -/
abbrev seg : Pipeline.RegionSeg (pcfgs (F := F)) adm (pdats (fun d b => V3 (W0 m d) b) (8 * 1)) none defs₀ 𝒱₀ (K (F := F)).L (K (F := F)).lev 0 :=
  reg (fun d b => V3 (W0 m d) b) (fun d b => V4 (W0 m d) b) (8 * 1) (fun d => V4_v6_0 _) (fun d => V4_v6_1 _)
    fun d r h0 h1 => by
      unfold V4
      rw [Function.update_of_ne (fun h => h1 (Proc.devRef_injective _ h)), Function.update_of_ne (fun h => h0 (Proc.devRef_injective _ h))]

theorem seg_pre (d : Dev nD) : (seg m).pre d = iprop(unscopedBufs d (fun b => V3 (W0 m d) b) ∗ owing (F := F) (8 * 1) d) := rfl
theorem seg_post (d : Dev nD) : (seg m).post d = iprop(unscopedBufs d (fun b => V4 (W0 m d) b) ∗ owing (F := F) (8 * 1) d) := rfl

/-- The call of the kernel is the pipeline's own call, one level up. -/
theorem call_eq : (Prog.lift (.customCall (SparseCore.inner (Pipeline.entry 0)) ()) : Prog (TpuEff nD τ sig (Elt F) (SparseCore.Sig (ΛP (F := F)) 2) .tc) PUnit)
    = SparseCore.liftProg (Prog.op (.customCall (Pipeline.entry 0) ()) fun _ => .ret PUnit.unit : Prog (TpuEff nD τ sig (Elt F) (ΛP (F := F)) .tc) PUnit) := rfl

/-- The TensorCore's kernel at the head of the thread. -/
theorem tc_step (d : Dev nD) {Q : PUnit → sProp 𝕄} :
    iprop((iprop(boundary (d : Thread nD τ) ∗ StableHlo.held (d : Thread nD τ) ucRefs (V4 (W0 m d)) ∗ owing (F := F) (8 * 1) d) -∗ Q ⟨⟩)
        ∗ boundary (d : Thread nD τ) ∗ StableHlo.held (d : Thread nD τ) ucRefs (V3 (W0 m d)) ∗ owing (F := F) (8 * 1) d ∗ levAts (K (F := F)).L (K (F := F)).lev ∗ G (F := F) d)
      ⊢ wp frame (wpE ((K (F := F)).defs (D (F := F))) 𝒱 (SparseCore.T d) none) Set.univ (Prog.lift (.customCall (SparseCore.inner (Pipeline.entry 0)) ())) Q := by
  rw [call_eq]
  have hw := Pipeline.RegionSeg.wp (pcfgs (F := F)) adm (pdats (fun d b => V3 (W0 m d) b) (8 * 1)) none cellOf_inj EP defs₀ 𝒱₀ (K (F := F)).L (K (F := F)).lev (seg m) d none
    (fun u hu => nomatch hu) (fun _ => .ret PUnit.unit) Q
  have hl := hw.trans ((K (F := F)).wp_liftProg (D (F := F)) 𝒱 (SparseCore.T d) Set.univ none _ Q)
  rw [seg_pre, seg_post] at hl
  rw [← unscopedBufs_held, ← unscopedBufs_held]
  iintro ⟨Hk, Hb, Hh, HO, Hl, Hg, Ht⟩
  iapply hl
  isplitl [Hk]
  · iintro ⟨Hb, Hp⟩
    rw [show (Prog.ret PUnit.unit : Prog (TpuEff nD τ sig (Elt F) (ΛP (F := F)) .tc) PUnit) = pure ⟨⟩ from rfl, wp_pure]
    imodintro
    iapply Hk
    isplitl [Hb]; · iexact Hb
    iexact Hp
  isplitl [Hb]; · iexact Hb
  isplitl [Hh HO]
  · isplitl [Hh]; · iexact Hh
    iexact HO
  isplitl [Hl]; · iexact Hl
  isplitl [Hg] <;> iassumption

/-! ## @main -/

theorem uc_mem (x : Ref sig .tc) (h : ¬ x.isScoped) : (Proc.devRef .tc x : DevRef τ sig) ∈ ucRefs :=
  Finset.mem_filter.mpr ⟨StableHlo.devRef_mem_tcRefs x, h⟩
theorem one_sub (x : Ref sig .tc) (h : ¬ x.isScoped) : ({(Proc.devRef .tc x : DevRef τ sig)} : Finset (DevRef τ sig)) ⊆ ucRefs :=
  Finset.singleton_subset_iff.mpr (uc_mem x h)
theorem ins_sub (x : Ref sig .tc) (h : ¬ x.isScoped) {S : Finset (DevRef τ sig)} (hS : S ⊆ ucRefs) : insert (Proc.devRef .tc x : DevRef τ sig) S ⊆ ucRefs :=
  Finset.insert_subset (uc_mem x h) hS
theorem forall_mem_of_forall {ops : List (HloOp τ sig (Elt F))} (h : ops.Forall fun op => op.bufs ⊆ ucRefs) : ∀ op ∈ ops, op.bufs ⊆ ucRefs :=
  List.forall_iff_forall_mem.mp h

theorem subA : ∀ op ∈ opsA (F := F), op.bufs ⊆ ucRefs := by
  refine forall_mem_of_forall ?_
  unfold opsA
  refine ⟨?_, ?_⟩
  · exact ins_sub main_arg8 (by decide) (one_sub main_v0 (by decide))
  · exact one_sub main_v1 (by decide)
theorem subB : ∀ op ∈ opsB (F := F), op.bufs ⊆ ucRefs := by
  refine forall_mem_of_forall ?_
  unfold opsB
  refine ⟨?_, ?_, ?_⟩
  · exact ins_sub main_arg3 (by decide) (one_sub main_v3 (by decide))
  · exact ins_sub main_arg5 (by decide) (one_sub main_v4 (by decide))
  · exact ins_sub main_arg7 (by decide) (one_sub main_v5 (by decide))
theorem subC : ∀ op ∈ opsC (F := F), op.bufs ⊆ ucRefs := by
  refine forall_mem_of_forall ?_
  unfold opsC
  refine ⟨?_, ?_, ?_, ?_⟩
  · exact ins_sub main_v6_1 (by decide) (one_sub main_v7 (by decide))
  · exact one_sub main_c (by decide)
  · exact ins_sub main_c (by decide) (one_sub main_v8 (by decide))
  · exact ins_sub main_v7 (by decide) (ins_sub main_v8 (by decide) (one_sub main_v9 (by decide)))
theorem subD : ∀ op ∈ opsD (F := F), op.bufs ⊆ ucRefs := by
  refine forall_mem_of_forall ?_
  unfold opsD
  refine ⟨?_, ?_, ?_, ?_, ?_, ?_, ?_, ?_, ?_, ?_, ?_⟩
  · exact one_sub main_c_0 (by decide)
  · exact ins_sub main_c_0 (by decide) (one_sub main_v11 (by decide))
  · exact ins_sub main_v7 (by decide) (ins_sub main_v11 (by decide) (one_sub main_v12 (by decide)))
  · exact ins_sub main_v12 (by decide) (one_sub main_v13 (by decide))
  · exact one_sub main_c_1 (by decide)
  · exact ins_sub main_c_1 (by decide) (one_sub main_v14 (by decide))
  · exact ins_sub main_v13 (by decide) (ins_sub main_v14 (by decide) (one_sub main_v15 (by decide)))
  · exact ins_sub main_v10 (by decide) (one_sub main_v16 (by decide))
  · exact ins_sub main_v10 (by decide) (one_sub main_v17 (by decide))
  · exact ins_sub main_v15 (by decide) (one_sub main_call0_v0 (by decide))
  · exact ins_sub main_call0_v0 (by decide) (ins_sub main_v16 (by decide) (ins_sub main_v17 (by decide) (one_sub main_v18 (by decide))))

theorem ops_fresh : (∀ op ∈ opsA (F := F), op.fresh = ∅) ∧ (∀ op ∈ opsB (F := F), op.fresh = ∅) ∧ (∀ op ∈ opsC (F := F), op.fresh = ∅) ∧ ∀ op ∈ opsD (F := F), op.fresh = ∅ := by
  refine ⟨?_, ?_, ?_, ?_⟩ <;> intro op h <;> (repeat (cases h with | head => rfl | tail _ h => ?_)) <;> exact nomatch h

/-- The unscoped buffers at the end. -/
abbrev FIN (d : Dev nD) : sProp 𝕄 := StableHlo.held (d : Thread nD τ) ucRefs (V7 (W0 m d))

/-- @main on a device's TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [main_eq, show (unscopedBufs d (fun b => m ((d.tc : Thread nD τ).loc b)) : sProp 𝕄) = StableHlo.held (d : Thread nD τ) ucRefs (W0 m d) from unscopedBufs_held d (W0 m d)]
  iintro ⟨#Hctx, Hst, ⟨Hb, Hh, Hts, -⟩, HG⟩
  iapply (host_step d opsA subA ops_fresh.1 (W0 m d)) $$ [Hb Hh Hst Hts HG]
  isplitl [Hb Hh]; · isplitl [Hb] <;> iassumption
  rw [show StableHlo.after opsA (W0 m d) = V1 (W0 m d) from rfl]
  iintro ⟨Hb, Hh⟩
  rw [wp_bind]
  ihave Hh := (Entails.of_eq (open0 m d)) $$ Hh
  icases Hh with ⟨Hop, Hh⟩
  iapply ((K (F := F)).wp_run (D (F := F)) 𝒱 (EH := EH) (P := P m) κ d 0) $$ [Hst Hop Hh Hb Hts HG]
  isplitr; · iexact Hctx
  isplitl [Hst]; · iexact Hst
  isplitl [Hop]; · iexact Hop
  iintro ⟨Hst, Hop⟩
  ihave Hh := (Entails.of_eq (close0 m d)) $$ [Hop Hh]
  · isplitl [Hop] <;> iassumption
  iapply (host_step d opsB subB ops_fresh.2.1 (V2 (W0 m d))) $$ [Hb Hh Hst Hts HG]
  isplitl [Hb Hh]; · isplitl [Hb] <;> iassumption
  rw [show StableHlo.after opsB (V2 (W0 m d)) = V3 (W0 m d) from rfl]
  iintro ⟨Hb, Hh⟩
  rw [wp_bind]
  unfold SparseCore.Cfg.tcSt
  icases Hst with ⟨HO, Hst⟩
  iapply (tc_step m d) $$ [HO Hst Hh Hb Hts HG]
  isplitr [HO Hh Hb HG]
  · iintro ⟨Hb, Hh, HO⟩
    iapply (host_step d opsC subC ops_fresh.2.2.1 (V4 (W0 m d))) $$ [Hb Hh HO Hst Hts]
    isplitl [Hb Hh]; · isplitl [Hb] <;> iassumption
    rw [show StableHlo.after opsC (V4 (W0 m d)) = V5 (W0 m d) from rfl]
    iintro ⟨Hb, Hh⟩
    rw [wp_bind]
    ihave Hh := (Entails.of_eq (open2 m d)) $$ Hh
    icases Hh with ⟨Hop, Hh⟩
    iapply ((K (F := F)).wp_run (D (F := F)) 𝒱 (EH := EH) (P := P m) κ d 1) $$ [HO Hst Hop Hh Hb Hts]
    isplitr; · iexact Hctx
    isplitl [HO Hst]
    · unfold SparseCore.Cfg.tcSt; isplitl [HO]; (· iexact HO); iexact Hst
    isplitl [Hop]; · iexact Hop
    iintro ⟨Hst, Hop⟩
    ihave Hh := (Entails.of_eq (close2 m d)) $$ [Hop Hh]
    · isplitl [Hop] <;> iassumption
    iapply (host_step d opsD subD ops_fresh.2.2.2 (V6 (W0 m d))) $$ [Hb Hh Hst Hts]
    isplitl [Hb Hh]; · isplitl [Hb] <;> iassumption
    rw [show StableHlo.after opsD (V6 (W0 m d)) = V7 (W0 m d) from rfl]
    iintro ⟨Hb, Hh⟩
    rw [wp_pure]
    imodintro
    isplitl [Hst]; · unfold SparseCore.Cfg.tcSt; iexact Hst
    isplitl [Hh]; · iexact Hh
    isplitl [Hb] <;> iassumption
  isplitl [Hb]; · iexact Hb
  isplitl [Hh]; · iexact Hh
  isplitl [HO]; · iexact HO
  isplitr [HG]
  · iapply (SparseCore.Cfg.ctx_levAts κ); iexact Hctx
  iexact HG

/-- What a final memory holds: every unscoped buffer of the TensorCore at its last contents. -/
def fq (d : Dev nD) (s' : Phys nD τ sig (Elt F)) : Prop := ∀ b ∈ ucRefs, s'.mem.mem (d, b) = V7 (W0 m d) b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) ucRefs) $$ [HSI H]
  · isplitl [HSI]; · iexact HSI
    iexact H
  ipureintro
  exact fun b hb => h b hb

/-- The claim about a run: the buffers' last contents, and every semaphore at zero. -/
def QC : PUnit × MemSt nD τ sig (Elt F) → Prop := fun r => (∀ c : Dev nD, ∀ b ∈ ucRefs, r.2.mem (c, b) = V7 (W0 m c) b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m | 1 => tileObl2 m)
    (fun q _ => match q with | 0 => SparseCore.Cfg.VecSplit.of_plain (vecSplit0 m) | 1 => SparseCore.Cfg.VecSplit.of_plain (vecSplit2 m))
    m ρ main (fun d => G (F := F) d) (FIN m) (u₀ (F := F)) (sep_elim_left.trans (hu₀ m)) (hmain m ρ) (fq m) (hfin m) (QC m) (fun _ h hz => ⟨h, hz⟩)

end Cert.Proof.Vq

end
-- ==== Proof.RefRun.lean ====
/-
  The reference's run: its host line in four pieces (the encoder, the distances, the position of the least distance, the
  lookup), that every argument ends as it began, and what the two results hold.
-/
module

public import proofs.«01_k».proof.Defs
public import proofs.«01_k».proof.Proof.Gen.ReferenceIdeal
public import Idealize.ShloMosaic.Lib.StableHlo.Run
public import Idealize.ShloMosaic.PureOps

@[expose] public section

set_option maxRecDepth 8192

noncomputable section

namespace Cert.Proof.Ref

open Cert.ReferenceIdeal Cert.ReferenceIdeal.Gen

open Idealize.ShloMosaic Idealize.ShloMosaic.TcCoe
open Idealize.ShloMosaic.StableHlo (after)

variable {F : FTy → Type} [FloatOps F]

/-! ## The host's line -/

/-- The encoder's operations. -/
def encOps : List (HloOp τ sig (Elt F)) :=
  [(StableHlo.binary main_arg0 main_arg1 main_v0 ((fun a b => concatenate S1024x640 1 [⟨S1024x128, a⟩, ⟨S1024x512, b⟩] concatenates_S1024x128_S1024x512_S1024x640_d1) : (⟨S1024x128, .f32⟩ : BufTy).Contents (Elt F) → (⟨S1024x512, .f32⟩ : BufTy).Contents (Elt F) → (⟨S1024x640, .f32⟩ : BufTy).Contents (Elt F))),
   (StableHlo.binary main_v0 main_arg2 main_v1 ((fun l r => Host.dotGeneral dot_S1024x640_S640x256_S1024x256_1_0_0_1_n_n none l r) : (⟨S1024x640, .f32⟩ : BufTy).Contents (Elt F) → (⟨S640x256, .f32⟩ : BufTy).Contents (Elt F) → (⟨S1024x256, .f32⟩ : BufTy).Contents (Elt F))),
   (StableHlo.unary main_arg3 main_v2 (broadcastInDim S1x256 ![1] bcast_S256_S1x256_1 : (⟨S256, .f32⟩ : BufTy).Contents (Elt F) → (⟨S1x256, .f32⟩ : BufTy).Contents (Elt F))),
   (StableHlo.unary main_v2 main_v3 (broadcastInDim S1024x256 ![0, 1] bcast_S1x256_S1024x256_0_1 : (⟨S1x256, .f32⟩ : BufTy).Contents (Elt F) → (⟨S1024x256, .f32⟩ : BufTy).Contents (Elt F))),
   (StableHlo.binary main_v1 main_v3 main_v4 (addf : (⟨S1024x256, .f32⟩ : BufTy).Contents (Elt F) → (⟨S1024x256, .f32⟩ : BufTy).Contents (Elt F) → (⟨S1024x256, .f32⟩ : BufTy).Contents (Elt F))),
   (StableHlo.nullary main_call0_cst (constant S_ .f32 0x00000000#32)),
   (StableHlo.unary main_call0_cst main_call0_v0 ((broadcastInDim S1024x256 ![] bcast_S_S1024x256) : (⟨S_, .f32⟩ : BufTy).Contents (Elt F) → (⟨S1024x256, .f32⟩ : BufTy).Contents (Elt F))),
   (StableHlo.binary main_v4 main_call0_v0 main_v5 (maximumf : (⟨S1024x256, .f32⟩ : BufTy).Contents (Elt F) → (⟨S1024x256, .f32⟩ : BufTy).Contents (Elt F) → (⟨S1024x256, .f32⟩ : BufTy).Contents (Elt F))),
   (StableHlo.binary main_v5 main_arg4 main_v6 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F))),
   (StableHlo.unary main_arg5 main_v7 (broadcastInDim S1x256 ![1] bcast_S256_S1x256_1 : (⟨S256, .f32⟩ : BufTy).Contents (Elt F) → (⟨S1x256, .f32⟩ : BufTy).Contents (Elt F))),
   (StableHlo.unary main_v7 main_v8 (broadcastInDim S1024x256 ![0, 1] bcast_S1x256_S1024x256_0_1 : (⟨S1x256, .f32⟩ : BufTy).Contents (Elt F) → (⟨S1024x256, .f32⟩ : BufTy).Contents (Elt F))),
   (StableHlo.binary main_v6 main_v8 main_v9 (addf : (⟨S1024x256, .f32⟩ : BufTy).Contents (Elt F) → (⟨S1024x256, .f32⟩ : BufTy).Contents (Elt F) → (⟨S1024x256, .f32⟩ : BufTy).Contents (Elt F))),
   (StableHlo.nullary main_call1_cst (constant S_ .f32 0x00000000#32)),
   (StableHlo.unary main_call1_cst main_call1_v0 ((broadcastInDim S1024x256 ![] bcast_S_S1024x256) : (⟨S_, .f32⟩ : BufTy).Contents (Elt F) → (⟨S1024x256, .f32⟩ : BufTy).Contents (Elt F))),
   (StableHlo.binary main_v9 main_call1_v0 main_v10 (maximumf : (⟨S1024x256, .f32⟩ : BufTy).Contents (Elt F) → (⟨S1024x256, .f32⟩ : BufTy).Contents (Elt F) → (⟨S1024x256, .f32⟩ : BufTy).Contents (Elt F))),
   (StableHlo.binary main_v10 main_arg6 main_v11 ((fun l r => Host.dotGeneral dot_S1024x256_S256x64_S1024x64_1_0_0_1_n_n none l r) : (⟨S1024x256, .f32⟩ : BufTy).Contents (Elt F) → (⟨S256x64, .f32⟩ : BufTy).Contents (Elt F) → (⟨S1024x64, .f32⟩ : BufTy).Contents (Elt F))),
   (StableHlo.unary main_arg7 main_v12 (broadcastInDim S1x64 ![1] bcast_S64_S1x64_1 : (⟨S64, .f32⟩ : BufTy).Contents (Elt F) → (⟨S1x64, .f32⟩ : BufTy).Contents (Elt F))),
   (StableHlo.unary main_v12 main_v13 (broadcastInDim S1024x64 ![0, 1] bcast_S1x64_S1024x64_0_1 : (⟨S1x64, .f32⟩ : BufTy).Contents (Elt F) → (⟨S1024x64, .f32⟩ : BufTy).Contents (Elt F))),
   (StableHlo.binary main_v11 main_v13 main_v14 (addf : (⟨S1024x64, .f32⟩ : BufTy).Contents (Elt F) → (⟨S1024x64, .f32⟩ : BufTy).Contents (Elt F) → (⟨S1024x64, .f32⟩ : BufTy).Contents (Elt F)))]

/-- What they write. -/
def encW : List (Ref sig .tc) := [main_v0, main_v1, main_v2, main_v3, main_v4, main_call0_cst, main_call0_v0, main_v5, main_v6, main_v7, main_v8, main_v9, main_call1_cst, main_call1_v0, main_v10, main_v11, main_v12, main_v13, main_v14]

/-- The distances' operations. -/
def distOps : List (HloOp τ sig (Elt F)) :=
  [(StableHlo.unary main_v14 main_v15 (broadcastInDim S1024x1x64 ![0, 2] bcast_S1024x64_S1024x1x64_0_2 : (⟨S1024x64, .f32⟩ : BufTy).Contents (Elt F) → (⟨S1024x1x64, .f32⟩ : BufTy).Contents (Elt F))),
   (StableHlo.unary main_arg8 main_v16 (broadcastInDim S1x1024x64 ![1, 2] bcast_S1024x64_S1x1024x64_1_2 : (⟨S1024x64, .f32⟩ : BufTy).Contents (Elt F) → (⟨S1x1024x64, .f32⟩ : BufTy).Contents (Elt F))),
   (StableHlo.unary main_v15 main_v17 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F))),
   (StableHlo.unary main_v16 main_v18 (broadcastInDim S1024x1024x64 ![0, 1, 2] bcast_S1x1024x64_S1024x1024x64_0_1_2 : (⟨S1x1024x64, .f32⟩ : BufTy).Contents (Elt F) → (⟨S1024x1024x64, .f32⟩ : BufTy).Contents (Elt F))),
   (StableHlo.binary main_v17 main_v18 main_v19 (subf : (⟨S1024x1024x64, .f32⟩ : BufTy).Contents (Elt F) → (⟨S1024x1024x64, .f32⟩ : BufTy).Contents (Elt F) → (⟨S1024x1024x64, .f32⟩ : BufTy).Contents (Elt F))),
   (StableHlo.binary main_v19 main_v19 main_call2_v0 (mulf : (⟨S1024x1024x64, .f32⟩ : BufTy).Contents (Elt F) → (⟨S1024x1024x64, .f32⟩ : BufTy).Contents (Elt F) → (⟨S1024x1024x64, .f32⟩ : BufTy).Contents (Elt F))),
   (StableHlo.nullary main_call2_cst (constant S_ .f32 0x00000000#32)),
   (StableHlo.binary main_call2_v0 main_call2_cst main_call2_v1 ((fun x v => Host.reduceAdd x v reducesTo_S1024x1024x64_S1024x1024_d2 h_S_) : (⟨S1024x1024x64, .f32⟩ : BufTy).Contents (Elt F) → (⟨S_, .f32⟩ : BufTy).Contents (Elt F) → (⟨S1024x1024, .f32⟩ : BufTy).Contents (Elt F))),
   (StableHlo.unary main_call2_v1 main_v20 (Host.sqrt : (⟨S1024x1024, .f32⟩ : BufTy).Contents (Elt F) → (⟨S1024x1024, .f32⟩ : BufTy).Contents (Elt F)))]

/-- What they write. -/
def distW : List (Ref sig .tc) := [main_v15, main_v16, main_v17, main_v18, main_v19, main_call2_v0, main_call2_cst, main_call2_v1, main_v20]

/-- The operations of the least distance's position. -/
def posOps : List (HloOp τ sig (Elt F)) :=
  [(StableHlo.nullary main_call3_v0 (iotaInDim S1024x1024 32 1)),
   (StableHlo.nullary main_call3_cst (constant S_ .f32 0x7F800000#32)),
   (StableHlo.nullary main_call3_c (constantI S_ 32 0#32)),
   (StableHlo.quaternary main_v20 main_call3_v0 main_call3_cst main_call3_c main_call3_v1_0 ((fun x y u v j => (Host.argReduce reducer_argmin_f32_i32 x y u v reducesTo_S1024x1024_S1024_d1 h_S_ j).1) : (⟨S1024x1024, .f32⟩ : BufTy).Contents (Elt F) → (⟨S1024x1024, .i32⟩ : BufTy).Contents (Elt F) → (⟨S_, .f32⟩ : BufTy).Contents (Elt F) → (⟨S_, .i32⟩ : BufTy).Contents (Elt F) → (⟨S1024, .f32⟩ : BufTy).Contents (Elt F))),
   (StableHlo.quaternary main_v20 main_call3_v0 main_call3_cst main_call3_c main_v21 ((fun x y u v j => (Host.argReduce reducer_argmin_f32_i32 x y u v reducesTo_S1024x1024_S1024_d1 h_S_ j).2) : (⟨S1024x1024, .f32⟩ : BufTy).Contents (Elt F) → (⟨S1024x1024, .i32⟩ : BufTy).Contents (Elt F) → (⟨S_, .f32⟩ : BufTy).Contents (Elt F) → (⟨S_, .i32⟩ : BufTy).Contents (Elt F) → (⟨S1024, .i32⟩ : BufTy).Contents (Elt F)))]

/-- What they write. -/
def posW : List (Ref sig .tc) := [main_call3_v0, main_call3_cst, main_call3_c, main_call3_v1_0, main_v21]

/-- The lookup's operations. -/
def takeOps : List (HloOp τ sig (Elt F)) :=
  [(StableHlo.nullary main_call4_c (constantI S_ 32 0#32)),
   (StableHlo.unary main_call4_c main_call4_v0 ((broadcastInDim S1024 ![] bcast_S_S1024) : (⟨S_, .i32⟩ : BufTy).Contents (Elt F) → (⟨S1024, .i32⟩ : BufTy).Contents (Elt F))),
   (StableHlo.binary main_v21 main_call4_v0 main_call4_v1 ((cmpi .slt) : (⟨S1024, .i32⟩ : BufTy).Contents (Elt F) → (⟨S1024, .i32⟩ : BufTy).Contents (Elt F) → (⟨S1024, .i1⟩ : BufTy).Contents (Elt F))),
   (StableHlo.nullary main_call4_c_0 (constantI S_ 32 1024#32)),
   (StableHlo.unary main_call4_c_0 main_call4_v2 ((broadcastInDim S1024 ![] bcast_S_S1024) : (⟨S_, .i32⟩ : BufTy).Contents (Elt F) → (⟨S1024, .i32⟩ : BufTy).Contents (Elt F))),
   (StableHlo.binary main_v21 main_call4_v2 main_call4_v3 (addi : (⟨S1024, .i32⟩ : BufTy).Contents (Elt F) → (⟨S1024, .i32⟩ : BufTy).Contents (Elt F) → (⟨S1024, .i32⟩ : BufTy).Contents (Elt F))),
   (StableHlo.ternary main_call4_v1 main_call4_v3 main_v21 main_call4_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))),
   (StableHlo.unary main_call4_v4 main_call4_v5 ((broadcastInDim S1024x1 ![0] bcast_S1024_S1024x1_0) : (⟨S1024, .i32⟩ : BufTy).Contents (Elt F) → (⟨S1024x1, .i32⟩ : BufTy).Contents (Elt F))),
   (StableHlo.nullary main_call4_c_1 (constantI S1 32 1023#32)),
   (StableHlo.nullary main_call4_c_2 (constantI S_ 32 0#32)),
   (StableHlo.unary main_call4_c_2 main_call4_v6 ((broadcastInDim S1024x1 ![] bcast_S_S1024x1) : (⟨S_, .i32⟩ : BufTy).Contents (Elt F) → (⟨S1024x1, .i32⟩ : BufTy).Contents (Elt F))),
   (StableHlo.binary main_call4_v5 main_call4_v6 main_call4_v7 ((cmpi .sge) : (⟨S1024x1, .i32⟩ : BufTy).Contents (Elt F) → (⟨S1024x1, .i32⟩ : BufTy).Contents (Elt F) → (⟨S1024x1, .i1⟩ : BufTy).Contents (Elt F))),
   (StableHlo.unary main_call4_c_1 main_call4_v8 ((broadcastInDim S1x1 ![1] bcast_S1_S1x1_1) : (⟨S1, .i32⟩ : BufTy).Contents (Elt F) → (⟨S1x1, .i32⟩ : BufTy).Contents (Elt F))),
   (StableHlo.unary main_call4_v8 main_call4_v9 ((broadcastInDim S1024x1 ![0, 1] bcast_S1x1_S1024x1_0_1) : (⟨S1x1, .i32⟩ : BufTy).Contents (Elt F) → (⟨S1024x1, .i32⟩ : BufTy).Contents (Elt F))),
   (StableHlo.binary main_call4_v5 main_call4_v9 main_call4_v10 ((cmpi .sle) : (⟨S1024x1, .i32⟩ : BufTy).Contents (Elt F) → (⟨S1024x1, .i32⟩ : BufTy).Contents (Elt F) → (⟨S1024x1, .i1⟩ : BufTy).Contents (Elt F))),
   (StableHlo.binary main_call4_v7 main_call4_v10 main_call4_v11 (andi : (⟨S1024x1, .i1⟩ : BufTy).Contents (Elt F) → (⟨S1024x1, .i1⟩ : BufTy).Contents (Elt F) → (⟨S1024x1, .i1⟩ : BufTy).Contents (Elt F))),
   (StableHlo.nullary main_call4_c_3 (constantI S_ 1 1#1)),
   (StableHlo.binary main_call4_v11 main_call4_c_3 main_call4_v12 ((fun x v => Host.reduce IntOp.andi x v reducesTo_S1024x1_S1024_d1 h_S_) : (⟨S1024x1, .i1⟩ : BufTy).Contents (Elt F) → (⟨S_, .i1⟩ : BufTy).Contents (Elt F) → (⟨S1024, .i1⟩ : BufTy).Contents (Elt F))),
   (StableHlo.binary main_arg8 main_call4_v5 main_call4_v13 ((fun x i => Host.gather gather_S1024x64_S1024x1_S1024x64_1_0_n_n_0_1_164 x i) : (⟨S1024x64, .f32⟩ : BufTy).Contents (Elt F) → (⟨S1024x1, .i32⟩ : BufTy).Contents (Elt F) → (⟨S1024x64, .f32⟩ : BufTy).Contents (Elt F))),
   (StableHlo.unary main_call4_v12 main_call4_v14 ((broadcastInDim S1024x64 ![0] bcast_S1024_S1024x64_0) : (⟨S1024, .i1⟩ : BufTy).Contents (Elt F) → (⟨S1024x64, .i1⟩ : BufTy).Contents (Elt F))),
   (StableHlo.nullary main_call4_cst (constant S_ .f32 0x7FC00000#32)),
   (StableHlo.unary main_call4_cst main_call4_v15 ((broadcastInDim S1024x64 ![] bcast_S_S1024x64) : (⟨S_, .f32⟩ : BufTy).Contents (Elt F) → (⟨S1024x64, .f32⟩ : BufTy).Contents (Elt F))),
   (StableHlo.ternary main_call4_v14 main_call4_v13 main_call4_v15 main_v22 (select : (⟨S1024x64, .i1⟩ : BufTy).Contents (Elt F) → (⟨S1024x64, .f32⟩ : BufTy).Contents (Elt F) → (⟨S1024x64, .f32⟩ : BufTy).Contents (Elt F) → (⟨S1024x64, .f32⟩ : BufTy).Contents (Elt F)))]

/-- What they write. -/
def takeW : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v22]

/-- The whole line. -/
def line : List (HloOp τ sig (Elt F)) := encOps ++ (distOps ++ (posOps ++ takeOps))

theorem main_eq (d : Dev nD) : main (F := F) d = StableHlo.seq line := rfl

/-! ## What each piece leaves -/

variable (V : Valuation τ sig (Elt F))

theorem enc_of (b : Ref sig .tc) (h : b ∉ encW) : after encOps V b = V b :=
  StableHlo.after_of_writes_sub encOps V (W := encW) (StableHlo.forall_writes_sub_of_map rfl) h
theorem dist_of (b : Ref sig .tc) (h : b ∉ distW) : after distOps V b = V b :=
  StableHlo.after_of_writes_sub distOps V (W := distW) (StableHlo.forall_writes_sub_of_map rfl) h
theorem pos_of (b : Ref sig .tc) (h : b ∉ posW) : after posOps V b = V b :=
  StableHlo.after_of_writes_sub posOps V (W := posW) (StableHlo.forall_writes_sub_of_map rfl) h
theorem take_of (b : Ref sig .tc) (h : b ∉ takeW) : after takeOps V b = V b :=
  StableHlo.after_of_writes_sub takeOps V (W := takeW) (StableHlo.forall_writes_sub_of_map rfl) h

theorem line_eq : after line V = after takeOps (after posOps (after distOps (after encOps V))) := rfl

/-! ## The values -/

/-- Every negative entry replaced by nothing at all: the larger of the entry and zero. -/
def reluR (x : S1024x256.Idx → Elt F .f32) : S1024x256.Idx → Elt F .f32 :=
  maximumf x (broadcastInDim S1024x256 ![] bcast_S_S1024x256 (constant S_ .f32 0x00000000#32))

/-- The encoded rows. -/
def encR (a0 : S1024x128.Idx → Elt F .f32) (a1 : S1024x512.Idx → Elt F .f32) (a2 : S640x256.Idx → Elt F .f32) (a3 : S256.Idx → Elt F .f32)
    (a4 : S256x256.Idx → Elt F .f32) (a5 : S256.Idx → Elt F .f32) (a6 : S256x64.Idx → Elt F .f32) (a7 : S64.Idx → Elt F .f32) : S1024x64.Idx → Elt F .f32 :=
  addf (Host.dotGeneral dot_S1024x256_S256x64_S1024x64_1_0_0_1_n_n none
    (reluR (addf (Host.dotGeneral dot_S1024x256_S256x256_S1024x256_1_0_0_1_n_n none
      (reluR (addf (Host.dotGeneral dot_S1024x640_S640x256_S1024x256_1_0_0_1_n_n none
          (concatenate S1024x640 1 [⟨S1024x128, a0⟩, ⟨S1024x512, a1⟩] concatenates_S1024x128_S1024x512_S1024x640_d1) a2)
        (broadcastInDim S1024x256 ![0, 1] bcast_S1x256_S1024x256_0_1 (broadcastInDim S1x256 ![1] bcast_S256_S1x256_1 a3)))) a4)
      (broadcastInDim S1024x256 ![0, 1] bcast_S1x256_S1024x256_0_1 (broadcastInDim S1x256 ![1] bcast_S256_S1x256_1 a5)))) a6)
    (broadcastInDim S1024x64 ![0, 1] bcast_S1x64_S1024x64_0_1 (broadcastInDim S1x64 ![1] bcast_S64_S1x64_1 a7))

/-- Each encoded row less each codebook row. -/
def diffR (u cb : S1024x64.Idx → Elt F .f32) : S1024x1024x64.Idx → Elt F .f32 :=
  subf (broadcastInDim S1024x1024x64 ![0, 1, 2] bcast_S1024x1x64_S1024x1024x64_0_1_2 (broadcastInDim S1024x1x64 ![0, 2] bcast_S1024x64_S1024x1x64_0_2 u))
    (broadcastInDim S1024x1024x64 ![0, 1, 2] bcast_S1x1024x64_S1024x1024x64_0_1_2 (broadcastInDim S1x1024x64 ![1, 2] bcast_S1024x64_S1x1024x64_1_2 cb))

/-- The distances. -/
def distR (u cb : S1024x64.Idx → Elt F .f32) : S1024x1024.Idx → Elt F .f32 :=
  Host.sqrt (Host.reduceAdd (mulf (diffR u cb) (diffR u cb)) (constant S_ .f32 0x00000000#32) reducesTo_S1024x1024x64_S1024x1024_d2 h_S_)

/-- The position of the least distance of every row. -/
def posR (d : S1024x1024.Idx → Elt F .f32) : S1024.Idx → Elt F .i32 := fun j =>
  (Host.argReduce reducer_argmin_f32_i32 d (iotaInDim S1024x1024 32 1) (constant S_ .f32 0x7F800000#32) (constantI S_ 32 0#32) reducesTo_S1024x1024_S1024_d1 h_S_ j).2

/-- The positions as a column, one below zero counted from the end. -/
def colR (p : S1024.Idx → Elt F .i32) : S1024x1.Idx → Elt F .i32 :=
  broadcastInDim S1024x1 ![0] bcast_S1024_S1024x1_0 (select (cmpi .slt p (broadcastInDim S1024 ![] bcast_S_S1024 (constantI S_ 32 0#32)))
    (addi p (broadcastInDim S1024 ![] bcast_S_S1024 (constantI S_ 32 1024#32))) p)

/-- The rows looked up. -/
def takeR (cb : S1024x64.Idx → Elt F .f32) (p : S1024.Idx → Elt F .i32) : S1024x64.Idx → Elt F .f32 :=
  select (broadcastInDim S1024x64 ![0] bcast_S1024_S1024x64_0 (Host.reduce IntOp.andi
      (andi (cmpi .sge (colR (F := F) p) (broadcastInDim S1024x1 ![] bcast_S_S1024x1 (constantI S_ 32 0#32)))
        (cmpi .sle (colR (F := F) p) (broadcastInDim S1024x1 ![0, 1] bcast_S1x1_S1024x1_0_1 (broadcastInDim S1x1 ![1] bcast_S1_S1x1_1 (constantI S1 32 1023#32)))))
      (constantI S_ 1 1#1) reducesTo_S1024x1_S1024_d1 h_S_))
    (Host.gather gather_S1024x64_S1024x1_S1024x64_1_0_n_n_0_1_164 cb (colR (F := F) p))
    (broadcastInDim S1024x64 ![] bcast_S_S1024x64 (constant S_ .f32 0x7FC00000#32))

theorem enc_v14 : after encOps V main_v14 = encR (V main_arg0) (V main_arg1) (V main_arg2) (V main_arg3) (V main_arg4) (V main_arg5) (V main_arg6) (V main_arg7) := by
  unfold encOps
  after_results
  rfl

theorem dist_v20 : after distOps V main_v20 = distR (V main_v14) (V main_arg8) := by
  unfold distOps
  after_results
  rfl

theorem pos_v21 : after posOps V main_v21 = posR (V main_v20) := by
  unfold posOps
  after_results
  rfl

theorem take_v22 : after takeOps V main_v22 = takeR (V main_arg8) (V main_v21) := by
  unfold takeOps
  after_results
  rfl

/-- The first result, -/
theorem line_v14 : after line V main_v14 = encR (V main_arg0) (V main_arg1) (V main_arg2) (V main_arg3) (V main_arg4) (V main_arg5) (V main_arg6) (V main_arg7) := by
  rw [line_eq, take_of _ _ (by decide), pos_of _ _ (by decide), dist_of _ _ (by decide), enc_v14]

/-- and the second. -/
theorem line_v22 : after line V main_v22 = takeR (V main_arg8)
    (posR (distR (encR (V main_arg0) (V main_arg1) (V main_arg2) (V main_arg3) (V main_arg4) (V main_arg5) (V main_arg6) (V main_arg7)) (V main_arg8))) := by
  rw [line_eq, take_v22, pos_of _ _ (by decide), dist_of _ main_arg8 (by decide), enc_of _ main_arg8 (by decide), pos_v21, dist_v20, enc_v14, enc_of _ main_arg8 (by decide)]

/-- No argument is written. -/
theorem line_of (b : Ref sig .tc) (h : b ∉ encW ∧ b ∉ distW ∧ b ∉ posW ∧ b ∉ takeW) : after line V b = V b := by
  rw [line_eq, take_of _ _ h.2.2.2, pos_of _ _ h.2.2.1, dist_of _ _ h.2.1, enc_of _ _ h.1]

/-! ## The run -/

theorem enc_sub : ((encOps (F := F)).Forall fun op => op.bufs ⊆ StableHlo.tcRefs τ sig) :=
  ⟨StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩
theorem dist_sub : ((distOps (F := F)).Forall fun op => op.bufs ⊆ StableHlo.tcRefs τ sig) :=
  ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub ..⟩
theorem pos_sub : ((posOps (F := F)).Forall fun op => op.bufs ⊆ StableHlo.tcRefs τ sig) :=
  ⟨StableHlo.nullary_bufs_sub .., StableHlo.nullary_bufs_sub .., StableHlo.nullary_bufs_sub .., StableHlo.quaternary_bufs_sub .., StableHlo.quaternary_bufs_sub ..⟩
theorem take_sub : ((takeOps (F := F)).Forall fun op => op.bufs ⊆ StableHlo.tcRefs τ sig) :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem line_sub : ((line (F := F)).Forall fun op => op.bufs ⊆ StableHlo.tcRefs τ sig) :=
  List.forall_append.mpr ⟨enc_sub, List.forall_append.mpr ⟨dist_sub, List.forall_append.mpr ⟨pos_sub, take_sub⟩⟩⟩

theorem run_line (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after line (StableHlo.launchContents m d) b :=
  StableHlo.run_seq (by decide) (by decide) defs main (fun _ => line) main_eq (fun _ => line_sub) m ρ

end Cert.Proof.Ref

end
-- ==== Proof.Frames.lean ====
/-
  The three frames: the kernel's two programs by the one run over any floats, the reference by its host line.
-/
module

public import proofs.«01_k».proof.Proof.Whole
public import proofs.«01_k».proof.Proof.RefRun
public import proofs.«01_k».proof.Proof.Gen.Kernel
public import Idealize.ShloMosaic.Lib.Quiescent

@[expose] public section

set_option maxRecDepth 4096

noncomputable section

namespace Cert.Proof.Vq

open Cert.KernelIdeal Cert.KernelIdeal.Gen
open Idealize.ShloMosaic Idealize.ShloMosaic.TcCoe

section
variable {F : FTy → Type} [FloatOps F]
variable {m : (ℓ : Loc nD τ sig) → Buf (Elt F) ℓ}

/-- What the run leaves at an unscoped buffer. -/
theorem QC_read {r : PUnit × MemSt nD τ sig (Elt F)} (h : QC m r) (c : Dev nD) (b : Ref sig .tc) (hb : ¬ b.isScoped) :
    r.2.mem ((c.tc : Thread nD τ).loc b) = V7 (W0 m c) b := h.1 c _ (uc_mem b hb)

/-- The arguments end as they began. -/
theorem QC_args {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  have e := V7_args (V := W0 m c)
  refine ⟨?_, ?_, ?_, ?_, ?_, ?_, ?_, ?_, ?_⟩
  · exact (QC_read h c main_arg0 (by decide)).trans e.1
  · exact (QC_read h c main_arg1 (by decide)).trans e.2.1
  · exact (QC_read h c main_arg2 (by decide)).trans e.2.2.1
  · exact (QC_read h c main_arg3 (by decide)).trans e.2.2.2.1
  · exact (QC_read h c main_arg4 (by decide)).trans e.2.2.2.2.1
  · exact (QC_read h c main_arg5 (by decide)).trans e.2.2.2.2.2.1
  · exact (QC_read h c main_arg6 (by decide)).trans e.2.2.2.2.2.2.1
  · exact (QC_read h c main_arg7 (by decide)).trans e.2.2.2.2.2.2.2.1
  · exact (QC_read h c main_arg8 (by decide)).trans e.2.2.2.2.2.2.2.2
end

/-- The frame, over any floats. -/
theorem frame_run {F : FTy → Type} [FloatOps F] [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0 :=
  (θ_run Cert.KernelIdeal.defs _ _).mono (fun _ h => ⟨fun c => QC_args h c, h.2⟩) (run_main (F := F) m ρ)

theorem frame_ideal : Cert.quiescent_KernelIdeal := fun m ρ _ => frame_run (F := Ideal) m ρ

/-- The two programs' bodies are the same text. -/
theorem bodies_eq : ∀ p l a, Cert.Kernel.defs₀ (F := Bits) p l a = Cert.KernelIdeal.defs₀ (F := Bits) p l a
  | .scVector _ _, 0, _ => rfl
  | .scVector _ _, 1, _ => rfl
  | .scVector _ _, 2, _ => rfl
  | .tc, 0, _ => rfl
  | .tc, 1, (_, _) => rfl
  | .tc, 2, _ => rfl
  | .scScalar _, 0, _ => rfl
  | .scScalar _, 1, _ => rfl
  | .scScalar _, 2, _ => rfl

theorem defs_eq : Cert.Kernel.defs (F := Bits) = Cert.KernelIdeal.defs (F := Bits) :=
  congrArg (fun D => (Cert.KernelIdeal.sc (F := Bits)).defs (Pipeline.defs (Cert.KernelIdeal.pcfgs (F := Bits)) D))
    (funext fun p => funext fun l => funext fun a => bodies_eq p l a)

theorem frame_kernel : Cert.quiescent_Kernel := fun m ρ _ => by
  rw [defs_eq]
  exact frame_run (F := Bits) m ρ

end Cert.Proof.Vq

namespace Cert.Proof.Ref

open Cert.ReferenceIdeal Cert.ReferenceIdeal.Gen
open Idealize.ShloMosaic Idealize.ShloMosaic.TcCoe

/-- An argument of the reference ends as it began. -/
theorem arg_read {m : (ℓ : Loc nD τ sig) → Buf (Elt Ideal) ℓ} {r : PUnit × MemSt nD τ sig (Elt Ideal)}
    (h : ∀ (d : Dev nD) (b : Ref sig .tc), r.2.mem ((d.tc : Thread nD τ).loc b) = StableHlo.after line (StableHlo.launchContents m d) b)
    (c : Dev nD) (b : Ref sig .tc) (hb : b ∉ encW ∧ b ∉ distW ∧ b ∉ posW ∧ b ∉ takeW) :
    r.2.mem ((c.tc : Thread nD τ).loc b) = m ((c.tc : Thread nD τ).loc b) := (h c b).trans (line_of _ b hb)

theorem frame_ref : Cert.quiescent_ReferenceIdeal := fun m ρ _ =>
  (θ_run Cert.ReferenceIdeal.defs _ _).mono
    (fun _ h => ⟨fun c => ⟨arg_read h c main_arg0 (by decide), arg_read h c main_arg1 (by decide), arg_read h c main_arg2 (by decide),
      arg_read h c main_arg3 (by decide), arg_read h c main_arg4 (by decide), arg_read h c main_arg5 (by decide),
      arg_read h c main_arg6 (by decide), arg_read h c main_arg7 (by decide), arg_read h c main_arg8 (by decide)⟩,
      sem_eq_zero_of_no_sems (by decide) _⟩) (run_line (F := Ideal) m ρ)

end Cert.Proof.Ref

end
-- ==== Proof.Lookup.lean ====
/-
  The rows looked up: the reference's gather of a table at positions below 1024, and the kernel's two gathers and a
  choice between halves, are the same row of the codebook.
-/
module

public import proofs.«01_k».proof.Proof.Vals
public import proofs.«01_k».proof.Proof.RefRun

@[expose] public section

set_option maxRecDepth 8192

noncomputable section

namespace Cert.Proof.Eq

open Cert.KernelIdeal Cert.KernelIdeal.Gen Cert.Proof.Vq Cert.Proof.Ref
open Idealize.ShloMosaic Idealize.ShloMosaic.TcCoe

variable {F : FTy → Type} [FloatOps F]

/-- The reference's gather dimensions. -/
abbrev dims := ReferenceIdeal.gather_S1024x64_S1024x1_S1024x64_1_0_n_n_0_1_164

/-- Result `(i, l)` reads the table at `(ix (i, 0), l)`. -/
theorem gather_ix (ix : ReferenceIdeal.S1024x1.Idx → BitVec 32) (i : Fin 1024) (l : Fin 64) (h : (ix (Idealize.ShloMosaic.ix2 i 0)).toNat < 1024) :
    dims.operandIdx (Idealize.ShloMosaic.ix2 i l) ix = Idealize.ShloMosaic.ix2 (⟨_, h⟩ : Fin 1024) l := by
  have e : ∀ c, dims.siIdx (Idealize.ShloMosaic.ix2 i l) c = Idealize.ShloMosaic.ix2 i 0 := by
    intro c
    have hc : c = ⟨0, by decide⟩ := Fin.ext (by have := c.isLt; have hl : dims.startIndexMap.length = 1 := rfl; omega)
    subst hc
    funext a
    fin_cases a <;> rfl
  have hi : (ix (Idealize.ShloMosaic.ix2 i 0)).toInt.toNat = (ix (Idealize.ShloMosaic.ix2 i 0)).toNat := by
    rw [BitVec.toInt_eq_toNat_of_lt (by omega)]; rfl
  funext a
  apply Fin.ext
  show dims.start (Idealize.ShloMosaic.ix2 i l) ix a + dims.batchCoord (Idealize.ShloMosaic.ix2 i l) a + dims.offCoord (Idealize.ShloMosaic.ix2 i l) a = _
  rw [GatherDims.batchCoord_eq_zero _ _ _ List.not_mem_nil, Nat.add_zero]
  fin_cases a
  · have hs : dims.start (Idealize.ShloMosaic.ix2 i l) ix 0 = (ix (Idealize.ShloMosaic.ix2 i 0)).toNat := by
      unfold GatherDims.start
      rw [dif_pos (by decide), e, hi]
      exact min_eq_left (by show _ ≤ 1023; omega)
    have ho : dims.offCoord (Idealize.ShloMosaic.ix2 i l) 0 = 0 := GatherDims.offCoord_eq_zero _ _ _ (by decide)
    exact (congrArg₂ (· + ·) hs ho)
  · have hs : dims.start (Idealize.ShloMosaic.ix2 i l) ix 1 = 0 := by
      unfold GatherDims.start
      rw [dif_neg (by decide)]
    have ho : dims.offCoord (Idealize.ShloMosaic.ix2 i l) 1 = l.val := by
      unfold GatherDims.offCoord
      rw [dif_pos (by decide)]
      rfl
    exact (congrArg₂ (· + ·) hs ho).trans (Nat.zero_add _)

/-- An index below 1024 is not below zero and is within the table. -/
theorem word_facts (w : BitVec 32) (h : w.toNat < 1024) :
    Scalar.select (IntOp.cmpi .slt w 0#32) (IntOp.addi w 1024#32) w = w ∧ IntOp.cmpi .sge w 0#32 = 1#1 ∧ IntOp.cmpi .sle w 1023#32 = 1#1 := by
  have hi : w.toInt = w.toNat := BitVec.toInt_eq_toNat_of_lt (by omega)
  have h1 : IntOp.cmpi .slt w 0#32 = 0#1 := by
    have h' : ¬ (w.toNat : ℤ) < 0 := by omega
    simp only [IntOp.cmpi, BitVec.slt, hi, BitVec.toInt_zero, h', decide_false, BitVec.ofBool_false]
    rfl
  refine ⟨by rw [h1]; rfl, ?_, ?_⟩
  · simp [IntOp.cmpi, BitVec.sle, hi]
  · have h' : (w.toNat : ℤ) ≤ 1023 := by omega
    simp [IntOp.cmpi, BitVec.sle, hi, h']

theorem colR_apply (p : S1024.Idx → BitVec 32) (i : Fin 1024) (h : (p (ix1 i)).toNat < 1024) :
    colR (F := F) p (Idealize.ShloMosaic.ix2 i 0) = p (ix1 i) := by
  have e : colR (F := F) p (Idealize.ShloMosaic.ix2 i 0) = Scalar.select (IntOp.cmpi .slt (p (ix1 i)) 0#32) (IntOp.addi (p (ix1 i)) 1024#32) (p (ix1 i)) := by
    pointwise [colR]
  rw [e, (word_facts _ h).1]

/-- The reference's lookup, where the position is below 1024. -/
theorem takeR_apply (cb : S1024x64.Idx → Elt F .f32) (p : S1024.Idx → BitVec 32) (i : Fin 1024) (l : Fin 64) (h : (p (ix1 i)).toNat < 1024) :
    takeR cb p (Idealize.ShloMosaic.ix2 i l) = cb (Idealize.ShloMosaic.ix2 (⟨_, h⟩ : Fin 1024) l) := by
  obtain ⟨h0, h1, h2⟩ := word_facts _ h
  have hc := colR_apply (F := F) p i h
  have hg : Host.gather dims cb (colR (F := F) p) (Idealize.ShloMosaic.ix2 i l) = cb (Idealize.ShloMosaic.ix2 (⟨_, h⟩ : Fin 1024) l) := by
    unfold Host.gather
    rw [gather_ix _ _ _ (by rw [hc]; exact h)]
    simp only [hc]
  have e : takeR cb p (Idealize.ShloMosaic.ix2 i l) = Scalar.select ((Finset.univ : Finset (Fin 1)).fold IntOp.andi 1#1 fun _ =>
      IntOp.andi (IntOp.cmpi .sge (Scalar.select (IntOp.cmpi .slt (p (ix1 i)) 0#32) (IntOp.addi (p (ix1 i)) 1024#32) (p (ix1 i))) 0#32)
        (IntOp.cmpi .sle (Scalar.select (IntOp.cmpi .slt (p (ix1 i)) 0#32) (IntOp.addi (p (ix1 i)) 1024#32) (p (ix1 i))) 1023#32))
      (Host.gather dims cb (colR (F := F) p) (Idealize.ShloMosaic.ix2 i l)) (FloatOps.ofBits .f32 2143289344#32) := by
    pointwise [takeR, colR]
  rw [e, h0, h1, h2, hg]
  rfl

/-! ## The kernel's lookup -/

variable (V : Valuation τ sig (Elt F))

/-- The staged table holds two codebook rows in each of its own. -/
theorem table_apply (cb : S1024x64.Idx → Elt F .f32) (w : BitVec 32) (hw : w.toNat < 512) (c : Fin 128) :
    (shapeCast S512x128 cb shapeCasts_S1024x64_S512x128 : S512x128.Idx → Elt F .f32) (rowIx w c)
      = cb (Idealize.ShloMosaic.ix2 (⟨w.toNat * 2 + c.val / 64, by have := c.isLt; omega⟩ : Fin 1024) (⟨c.val % 64, Nat.mod_lt _ (by norm_num)⟩ : Fin 64)) := by
  have e : rowIx w c = Idealize.ShloMosaic.ix2 (⟨w.toNat, hw⟩ : Fin 512) c := by
    funext a
    fin_cases a
    · exact Fin.ext (Nat.mod_eq_of_lt hw)
    · rfl
  rw [e]
  pointwise

/-- The first gather, by rows in order, copies the table. -/
theorem staged_apply (w : BitVec 32) (hw : w.toNat < 512) (c : Fin 128) : (V5 V main_v2 : S512x128.Idx → Elt F .f32) (rowIx w c) = (V1 V main_v0 : S512x128.Idx → Elt F .f32) (rowIx w c) := by
  rw [V5_v2]
  unfold gath0
  congr 1
  rw [V1_v1]
  have e : (iotaInDim S512 32 0 : S512.Idx → BitVec 32) (ix0 (rowIx w c 0)) = BitVec.ofNat 32 (w.toNat % 512) := rfl
  rw [e]
  funext a
  fin_cases a
  · refine Fin.ext ?_
    show (BitVec.ofNat 32 (w.toNat % 512)).toNat % 512 = w.toNat % 512
    rw [BitVec.toNat_ofNat]
    omega
  · rfl

/-- The odd index's row is the right half, the even one's the left. -/
theorem half_apply (cb : S1024x64.Idx → Elt F .f32) (x w : BitVec 32) (hx : x.toNat < 1024) (hw : w.toNat < 512) (h9 : w.toNat = x.toNat / 2) (l : Fin 64) :
    Scalar.select (IntOp.cmpi .eq (IntOp.andi x 1#32) 1#32)
        (cb (Idealize.ShloMosaic.ix2 (⟨w.toNat * 2 + (64 + l.val) / 64, by have := l.isLt; omega⟩ : Fin 1024) (⟨(64 + l.val) % 64, Nat.mod_lt _ (by norm_num)⟩ : Fin 64)))
        (cb (Idealize.ShloMosaic.ix2 (⟨w.toNat * 2 + l.val / 64, by have := l.isLt; omega⟩ : Fin 1024) (⟨l.val % 64, Nat.mod_lt _ (by norm_num)⟩ : Fin 64)))
      = cb (Idealize.ShloMosaic.ix2 (⟨x.toNat, hx⟩ : Fin 1024) l) := by
  have hand : (IntOp.andi x 1#32).toNat = x.toNat % 2 := by
    unfold IntOp.andi
    rw [BitVec.toNat_and]
    exact Nat.and_one_is_mod _
  have hl := l.isLt
  have hr : ∀ (r : Fin 1024) (c : Fin 64), r.val = x.toNat → c.val = l.val → cb (Idealize.ShloMosaic.ix2 r c) = cb (Idealize.ShloMosaic.ix2 (⟨x.toNat, hx⟩ : Fin 1024) l) := by
    intro r c h1 h2
    obtain rfl : r = ⟨x.toNat, hx⟩ := Fin.ext h1
    obtain rfl : c = l := Fin.ext h2
    rfl
  rcases Nat.mod_two_eq_zero_or_one x.toNat with hm | hm
  · have hne : ¬ IntOp.andi x 1#32 = 1#32 := fun e => by rw [e, hm] at hand; exact absurd hand (by decide)
    have hc : IntOp.cmpi .eq (IntOp.andi x 1#32) 1#32 = 0#1 := by
      unfold IntOp.cmpi
      rw [beq_eq_false_iff_ne.mpr hne]
      rfl
    rw [hc]
    exact hr _ _ (by show w.toNat * 2 + l.val / 64 = _; omega) (by show l.val % 64 = _; omega)
  · have he : IntOp.andi x 1#32 = 1#32 := BitVec.eq_of_toNat_eq (by rw [hand, hm]; rfl)
    rw [he]
    exact hr _ _ (by show w.toNat * 2 + (64 + l.val) / 64 = _; omega) (by show (64 + l.val) % 64 = _; omega)

theorem ix_eq (i : Fin 1024) : (Vq.ix2 i : S1024.Idx) = ix1 i := by
  funext a
  fin_cases a
  rfl

/-- The kernel's second result: the codebook's row at the index the launch left. -/
theorem v18_apply (i : Fin 1024) (l : Fin 64) (h : (idxOf (V3 V) (Idealize.ShloMosaic.ix2 i 0)).toNat < 1024) :
    (V7 V main_v18 : S1024x64.Idx → Elt F .f32) (Idealize.ShloMosaic.ix2 i l) = (V main_arg8 : S1024x64.Idx → Elt F .f32) (Idealize.ShloMosaic.ix2 (⟨_, h⟩ : Fin 1024) l) := by
  have hl : shapeCast S1024 (idxOf (V3 V)) shapeCasts_S1024x1_S1024 (ix1 i) = idxOf (V3 V) (Idealize.ShloMosaic.ix2 i 0) := by
    pointwise
  have h9 := V5_v9_apply V (Vq.ix2 i)
  have hw := hix2 V (Vq.ix2 i)
  rw [ix_eq, hl] at h9
  rw [ix_eq] at hw
  have e : (V7 V main_v18 : S1024x64.Idx → Elt F .f32) (Idealize.ShloMosaic.ix2 i l)
      = Scalar.select (IntOp.cmpi .eq (IntOp.andi (idxOf (V3 V) (Idealize.ShloMosaic.ix2 i 0)) 1#32) 1#32)
        ((V5 V main_v2 : S512x128.Idx → Elt F .f32) (rowIx ((V5 V main_v9 : S1024.Idx → BitVec 32) (Vq.ix2 i)) (⟨64 + l.val, by have := l.isLt; omega⟩ : Fin 128)))
        ((V5 V main_v2 : S512x128.Idx → Elt F .f32) (rowIx ((V5 V main_v9 : S1024.Idx → BitVec 32) (Vq.ix2 i)) (⟨l.val, by have := l.isLt; omega⟩ : Fin 128))) := by
    rw [V7_v18, V6_v10, V6_v7, V5_v7]
    pointwise [gath2]
  rw [e, ix_eq, staged_apply V _ hw, staged_apply V _ hw, V1_v0, table_apply _ _ hw, table_apply _ _ hw]
  exact half_apply _ _ _ h hw h9 l

end Cert.Proof.Eq

end
-- ==== Proof.Least.lean ====
/-
  The first position at which a row of extended reals is least: that it exists, is one, does not change when the row is
  replaced by one in the same order, and is what the kernel's masked minimum and the reference's fold of pairs compute.
-/
module

public import proofs.«01_k».proof.Proof.Vals
public import proofs.«01_k».proof.Proof.RefRun
public import Idealize.ShloMosaic.PureOps.Ideal.Laws

@[expose] public section

set_option maxRecDepth 8192

noncomputable section

namespace Cert.Proof.Eq

open Idealize.ShloMosaic Cert.Proof.Vq

/-- `p` is the first position at which `s` is least. -/
def First (s : Fin 1024 → EReal) (p : Fin 1024) : Prop := ∀ k, s p < s k ∨ s p = s k ∧ p ≤ k

theorem First.le {s : Fin 1024 → EReal} {p : Fin 1024} (h : First s p) (k : Fin 1024) : s p ≤ s k :=
  (h k).elim le_of_lt fun e => e.1.le

theorem First.unique {s : Fin 1024 → EReal} {p q : Fin 1024} (hp : First s p) (hq : First s q) : p = q := by
  have e : s p = s q := le_antisymm (hp.le q) (hq.le p)
  have h1 : p ≤ q := (hp q).elim (fun h => absurd e h.ne) And.right
  have h2 : q ≤ p := (hq p).elim (fun h => absurd e.symm h.ne) And.right
  exact le_antisymm h1 h2

theorem First.exists (s : Fin 1024 → EReal) : ∃ p, First s p := by
  obtain ⟨p, hp⟩ := Finite.exists_min fun k => toLex (s k, k)
  exact ⟨p, fun k => Prod.Lex.toLex_le_toLex.mp (hp k)⟩

/-- Two rows in the same order are least at the same position. -/
theorem First.congr {s d : Fin 1024 → EReal} (h : ∀ k l, s k < s l ↔ d k < d l) {p : Fin 1024} (hp : First s p) : First d p := by
  intro k
  rcases hp k with h1 | ⟨h1, h2⟩
  · exact .inl ((h p k).mp h1)
  · refine .inr ⟨le_antisymm (not_lt.mp fun hl => ?_) (not_lt.mp fun hl => ?_), h2⟩
    · exact absurd ((h k p).mpr hl) (by rw [h1]; exact lt_irrefl _)
    · exact absurd ((h p k).mpr hl) (by rw [h1]; exact lt_irrefl _)

/-- The least column among those that hold the row's least entry, a fill from `1023` on standing for the others, is the
first of them. -/
theorem fold_first {s : Fin 1024 → EReal} {p : Fin 1024} (hp : First s p) (m : EReal) (hm : m = (Finset.univ : Finset (Fin 1024)).fold min ⊤ s)
    (w : BitVec 32) (hw : 1023 ≤ w.toNat) (hw' : w.toNat ≤ 1024) :
    ((Finset.univ : Finset (Fin 1024)).fold IntOp.minsi 2147483647#32 (fun k => Scalar.select (Ideal.cmp .oeq (s k) m) (BitVec.ofNat 32 k.val) w)).toNat = p.val := by
  have hms : m = s p := by
    rw [hm]
    refine le_antisymm ?_ ?_
    · exact (Finset.fold_min_le _).mpr (.inr ⟨p, Finset.mem_univ p, le_refl _⟩)
    · exact (Finset.le_fold_min _).mpr ⟨le_top, fun k _ => hp.le k⟩
  have hv : ∀ k : Fin 1024, (Scalar.select (Ideal.cmp .oeq (s k) m) (BitVec.ofNat 32 k.val) w).toNat = if s k = s p then k.val else w.toNat := by
    intro k
    have hk := k.isLt
    unfold Scalar.select Ideal.cmp
    rw [hms]
    by_cases h : s k = s p
    · simp [h]; omega
    · simp [h]
  rw [toNat_fold_minsi _ _ (by decide) _ fun k _ => by rw [hv]; split <;> omega]
  simp only [hv]
  refine le_antisymm ?_ ?_
  · exact (Finset.fold_min_le _).mpr (.inr ⟨p, Finset.mem_univ p, by simp⟩)
  · refine (Finset.le_fold_min _).mpr ⟨by have := p.isLt; simp; omega, fun k _ => ?_⟩
    split
    · next h => exact (hp k).elim (fun hl => absurd h.symm hl.ne) fun e => e.2
    · have := p.isLt; omega

/-! ## The reference's fold of pairs -/

/-- The order the fold keeps the least of: by entry, then by position. -/
def key (q : EReal × BitVec 32) : EReal ×ₗ ℤ := toLex (q.1, q.2.toInt)

theorem reducer_eq (a b : EReal × BitVec 32) : Cert.ReferenceIdeal.reducer_argmin_f32_i32 (F := Ideal) a b = if key a < key b then a else b := by
  obtain ⟨x, i⟩ := a
  obtain ⟨y, j⟩ := b
  have hk : key (x, i) < key (y, j) ↔ x < y ∨ x = y ∧ i.toInt < j.toInt := Prod.Lex.toLex_lt_toLex
  unfold Cert.ReferenceIdeal.reducer_argmin_f32_i32
  simp only [hk, Ideal.cmpf_def, Ideal.cmp, IntOp.ori, IntOp.andi, IntOp.cmpi, Scalar.select]
  rcases lt_trichotomy x y with h | h | h
  · simp [h, h.ne]
  · subst h
    by_cases hi : i.toInt < j.toInt <;> simp [hi, BitVec.slt]
  · simp [h.ne', h.not_gt, not_lt.mpr h.le]

theorem foldl_least (L : List (EReal × BitVec 32)) (a : EReal × BitVec 32) :
    let r := L.foldl (Cert.ReferenceIdeal.reducer_argmin_f32_i32 (F := Ideal)) a
    (r = a ∨ r ∈ L) ∧ key r ≤ key a ∧ ∀ q ∈ L, key r ≤ key q := by
  induction L generalizing a with
  | nil => exact ⟨.inl rfl, le_refl _, fun q hq => absurd hq List.not_mem_nil⟩
  | cons x L ih =>
    obtain ⟨h1, h2, h3⟩ := ih (Cert.ReferenceIdeal.reducer_argmin_f32_i32 (F := Ideal) a x)
    rw [reducer_eq] at h1 h2 h3
    simp only [List.foldl_cons]
    rw [reducer_eq]
    by_cases h : key a < key x
    · rw [if_pos h] at h1 h2 h3 ⊢
      refine ⟨h1.imp id (List.mem_cons_of_mem _), h2, fun q hq => ?_⟩
      rcases List.mem_cons.mp hq with rfl | hq
      · exact h2.trans h.le
      · exact h3 q hq
    · rw [if_neg h] at h1 h2 h3 ⊢
      refine ⟨.inr (h1.elim (fun e => List.mem_cons.mpr (.inl e)) (List.mem_cons_of_mem _)), h2.trans (not_lt.mp h), fun q hq => ?_⟩
      rcases List.mem_cons.mp hq with rfl | hq
      · exact h2
      · exact h3 q hq

/-- Over a row below `⊤`, paired with its positions, the fold ends at the first least entry's position. -/
theorem foldl_first {s : Fin 1024 → EReal} (hs : ∀ k, s k < ⊤) (L : List (EReal × BitVec 32))
    (hL : ∀ q, q ∈ L ↔ ∃ k : Fin 1024, q = (s k, BitVec.ofNat 32 k.val)) {p : Fin 1024} (hp : First s p) :
    (L.foldl (Cert.ReferenceIdeal.reducer_argmin_f32_i32 (F := Ideal)) (⊤, 0#32)).2 = BitVec.ofNat 32 p.val := by
  obtain ⟨h1, -, h3⟩ := foldl_least L (⊤, 0#32)
  set r := L.foldl (Cert.ReferenceIdeal.reducer_argmin_f32_i32 (F := Ideal)) (⊤, 0#32) with hr
  have hmem : r ∈ L := by
    refine h1.resolve_left fun e => ?_
    have h := h3 _ ((hL _).mpr ⟨0, rfl⟩)
    rw [e] at h
    rcases Prod.Lex.toLex_le_toLex.mp h with h | ⟨h, -⟩
    · exact absurd h (not_lt.mpr le_top)
    · exact absurd h (hs 0).ne'
  obtain ⟨q, hq⟩ := (hL r).mp hmem
  have hint : ∀ k : Fin 1024, (BitVec.ofNat 32 k.val).toInt = (k.val : ℤ) := by
    intro k
    have := k.isLt
    rw [BitVec.toInt_eq_toNat_of_lt (by rw [BitVec.toNat_ofNat]; omega), BitVec.toNat_ofNat]
    congr 1
    omega
  have hfirst : First s q := by
    intro k
    have h := h3 _ ((hL _).mpr ⟨k, rfl⟩)
    rw [hq] at h
    rcases Prod.Lex.toLex_le_toLex.mp h with h | ⟨h, h'⟩
    · exact .inl h
    · refine .inr ⟨h, ?_⟩
      replace h' : (BitVec.ofNat 32 q.val).toInt ≤ (BitVec.ofNat 32 k.val).toInt := h'
      rw [hint, hint] at h'
      exact Fin.le_def.mpr (by exact_mod_cast h')
  rw [hq, hfirst.unique hp]

end Cert.Proof.Eq

end
-- ==== Proof.Real.lean ====
/-
  Finite inputs, as the precondition says them, and what they make of the scores and the distances: real numbers, and
  the same order along every row.
-/
module

public import proofs.«01_k».proof.Proof.Least
public import proofs.«01_k».proof.Pre_finite

@[expose] public section

set_option maxRecDepth 8192

noncomputable section

namespace Cert.Proof.Eq

open Cert.KernelIdeal Cert.KernelIdeal.Gen Cert.Proof.Vq Cert.Proof.Ref
open Idealize.ShloMosaic Idealize.ShloMosaic.TcCoe

/-- The extended real is a real number. -/
def IsReal (x : EReal) : Prop := ∃ r : ℝ, x = (r : EReal)

theorem IsReal.add {x y : EReal} (hx : IsReal x) (hy : IsReal y) : IsReal (x + y) := by
  obtain ⟨r, rfl⟩ := hx
  obtain ⟨q, rfl⟩ := hy
  exact ⟨r + q, (EReal.coe_add r q).symm⟩

theorem IsReal.mul {x y : EReal} (hx : IsReal x) (hy : IsReal y) : IsReal (x * y) := by
  obtain ⟨r, rfl⟩ := hx
  obtain ⟨q, rfl⟩ := hy
  exact ⟨r * q, (EReal.coe_mul r q).symm⟩

theorem IsReal.zero : IsReal 0 := ⟨0, rfl⟩

theorem IsReal.max {x y : EReal} (hx : IsReal x) (hy : IsReal y) : IsReal (Max.max x y) := by
  rcases max_choice x y with h | h <;> rw [h] <;> assumption

theorem IsReal.sum {n : Nat} {f : Fin n → EReal} (h : ∀ k, IsReal (f k)) : IsReal (∑ k, f k) := by
  choose r hr using h
  refine ⟨∑ k, r k, ?_⟩
  rw [Finset.sum_congr rfl fun k _ => hr k]
  exact (map_sum (⟨⟨Real.toEReal, rfl⟩, EReal.coe_add⟩ : ℝ →+ EReal) r Finset.univ).symm

theorem coe_sum {n : Nat} (r : Fin n → ℝ) : ∑ k, (r k : EReal) = ((∑ k, r k : ℝ) : EReal) :=
  (map_sum (⟨⟨Real.toEReal, rfl⟩, EReal.coe_add⟩ : ℝ →+ EReal) r Finset.univ).symm

/-! ## The precondition -/

theorem real_of_lt (a : EReal) (h : max a (-a) < ⊤) : IsReal a := by
  induction a using EReal.rec with
  | bot => simp at h
  | top => simp at h
  | coe r => exact ⟨r, rfl⟩

theorem inf : Ideal.ofBits .f32 0x7F800000#32 = ⊤ := by
  simp [Ideal.ofBits, Ideal.ieee]

theorem two : Ideal.ofBits .f32 3221225472#32 = ((-2 : ℝ) : EReal) := by
  simp [Ideal.ofBits, Ideal.ieee, -EReal.coe_mul, -EReal.coe_neg]
  norm_num

theorem all_of_foldl {ι : Type} (x : ι → BitVec 1) (L : List ι) (a : BitVec 1) (h : L.foldl (fun r i => IntOp.andi r (x i)) a = 1#1) :
    a = 1#1 ∧ ∀ i ∈ L, x i = 1#1 := by
  induction L generalizing a with
  | nil => exact ⟨h, fun i hi => absurd hi List.not_mem_nil⟩
  | cons k L ih =>
    obtain ⟨h1, h2⟩ := ih _ h
    have h3 : ∀ p q : BitVec 1, IntOp.andi p q = 1#1 → p = 1#1 ∧ q = 1#1 := by decide
    refine ⟨(h3 _ _ h1).1, fun i hi => ?_⟩
    rcases List.mem_cons.mp hi with rfl | hi
    · exact (h3 _ _ h1).2
    · exact h2 i hi

/-- An input whose finiteness test comes out true holds real numbers. -/
theorem real_of_test {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel)
    (h : Host.reduce IntOp.andi (cmpf .olt (Host.absf x) (broadcastInDim s ![] hb (constant (F := Ideal) Cert.Pre_finite.S_ .f32 0x7F800000#32)))
      (constantI Cert.Pre_finite.S_ 1 1#1) hr hu = fun _ => 1#1) (i : s.Idx) : IsReal (x i) := by
  have h0 := congrFun h (hr.drop i)
  rw [Host.reduce_eq_foldl] at h0
  have h1 := (all_of_foldl _ _ _ h0).2 i (List.mem_filter.mpr ⟨by
    rw [List.mem_map]
    exact ⟨s.rowMajor i, List.mem_finRange _, Equiv.symm_apply_apply ..⟩, by simp⟩)
  have h2 : Ideal.cmp .olt (max (x i) (-(x i))) (Ideal.ofBits .f32 0x7F800000#32) = 1#1 := h1
  rw [inf] at h2
  have hlt : max (x i) (-(x i)) < ⊤ := by
    by_contra hn
    unfold Ideal.cmp at h2
    simp [hn] at h2
  generalize x i = a at hlt
  exact real_of_lt a hlt

/-! ## The encoder's rows -/

theorem enc_eq (a0 : S1024x128.Idx → EReal) (a1 : S1024x512.Idx → EReal) (a2 : S640x256.Idx → EReal) (a3 : S256.Idx → EReal)
    (a4 : S256x256.Idx → EReal) (a5 : S256.Idx → EReal) (a6 : S256x64.Idx → EReal) (a7 : S64.Idx → EReal) :
    k1_pay2 (F := Ideal) a0 a1 a2 (broadcastInDim S1x256 ![1] bcast_S256_S1x256_1 a3) a4 (broadcastInDim S1x256 ![1] bcast_S256_S1x256_1 a5) a6
      (broadcastInDim S1x64 ![1] bcast_S64_S1x64_1 a7) = encR (F := Ideal) a0 a1 a2 a3 a4 a5 a6 a7 := by
  funext j
  pointwise [k1_pay2, encR, reluR]

theorem enc_real (a0 : S1024x128.Idx → EReal) (a1 : S1024x512.Idx → EReal) (a2 : S640x256.Idx → EReal) (a3 : S256.Idx → EReal)
    (a4 : S256x256.Idx → EReal) (a5 : S256.Idx → EReal) (a6 : S256x64.Idx → EReal) (a7 : S64.Idx → EReal)
    (h0 : ∀ j, IsReal (a0 j)) (h1 : ∀ j, IsReal (a1 j)) (h2 : ∀ j, IsReal (a2 j)) (h3 : ∀ j, IsReal (a3 j)) (h4 : ∀ j, IsReal (a4 j))
    (h5 : ∀ j, IsReal (a5 j)) (h6 : ∀ j, IsReal (a6 j)) (h7 : ∀ j, IsReal (a7 j)) (i : Fin 1024) (l : Fin 64) :
    IsReal (encR (F := Ideal) a0 a1 a2 a3 a4 a5 a6 a7 (Idealize.ShloMosaic.ix2 i l)) := by
  have hz : IsReal (0 : EReal) := IsReal.zero
  pointwise [encR, reluR]
  refine .add (.sum fun x => .mul (.max (.add (.sum fun y => .mul (.max (.add (.add (.sum fun z => .mul (h0 _) (h2 _)) (.sum fun z => .mul (h1 _) (h2 _))) (h3 _)) hz) (h4 _)) (h5 _)) hz) (h6 _)) (h7 _)

/-! ## The two orders -/

theorem scores_apply (v0 : S1024x128.Idx → EReal) (v1 : S1024x512.Idx → EReal) (v3 : S640x256.Idx → EReal) (v5 : S1x256.Idx → EReal)
    (v11 : S256x256.Idx → EReal) (v13 : S1x256.Idx → EReal) (v19 : S256x64.Idx → EReal) (v21 : S1x64.Idx → EReal) (cb : S1024x64.Idx → EReal) (i k : Fin 1024) :
    scores (F := Ideal) (k1_pay3 v0 v1 v3 v5 v11 v13 v19 v21) cb (Idealize.ShloMosaic.ix2 i k)
      = ∑ x, k1_pay2 (F := Ideal) v0 v1 v3 v5 v11 v13 v19 v21 (Idealize.ShloMosaic.ix2 i x) * Ideal.ofBits .f32 3221225472#32 * cb (Idealize.ShloMosaic.ix2 k x)
        + ∑ _x : Fin 1, ∑ x, cb (Idealize.ShloMosaic.ix2 k x) * cb (Idealize.ShloMosaic.ix2 k x) := by
  pointwise [scores, k1_pay3]

theorem dist_apply (u cb : S1024x64.Idx → EReal) (i k : Fin 1024) : distR (F := Ideal) u cb (Idealize.ShloMosaic.ix2 i k)
    = Ideal.sqrt (∑ x, (u (Idealize.ShloMosaic.ix2 i x) - cb (Idealize.ShloMosaic.ix2 k x)) * (u (Idealize.ShloMosaic.ix2 i x) - cb (Idealize.ShloMosaic.ix2 k x))) := by
  pointwise [distR, diffR]

/-- The score of one codebook row against one encoded row, in reals. -/
def realScore (u : Fin 64 → ℝ) (c : Fin 1024 → Fin 64 → ℝ) (k : Fin 1024) : ℝ := ∑ x, u x * (-2) * c k x + ∑ x, c k x * c k x

theorem realScore_add (u : Fin 64 → ℝ) (c : Fin 1024 → Fin 64 → ℝ) (k : Fin 1024) :
    ∑ x, (u x - c k x) * (u x - c k x) = realScore u c k + ∑ x, u x * u x := by
  unfold realScore
  rw [← Finset.sum_add_distrib, ← Finset.sum_add_distrib]
  exact Finset.sum_congr rfl fun x _ => by ring

theorem realScore_lt (u : Fin 64 → ℝ) (c : Fin 1024 → Fin 64 → ℝ) (k l : Fin 1024) :
    realScore u c k < realScore u c l ↔ Real.sqrt (∑ x, (u x - c k x) * (u x - c k x)) < Real.sqrt (∑ x, (u x - c l x) * (u x - c l x)) := by
  rw [Real.sqrt_lt_sqrt_iff (Finset.sum_nonneg fun x _ => mul_self_nonneg _), realScore_add, realScore_add, add_lt_add_iff_right]

/-- A score, with real entries. -/
theorem score_coe (u : Fin 64 → ℝ) (c : Fin 1024 → Fin 64 → ℝ) (k : Fin 1024) :
    ∑ x, (u x : EReal) * Ideal.ofBits .f32 3221225472#32 * (c k x : EReal) + ∑ _x : Fin 1, ∑ x, (c k x : EReal) * (c k x : EReal) = (realScore u c k : EReal) := by
  rw [two]
  simp only [← EReal.coe_mul, coe_sum, Finset.univ_unique, Finset.sum_singleton, ← EReal.coe_add]
  rfl

/-- A distance, with real entries. -/
theorem dist_coe (u : Fin 64 → ℝ) (c : Fin 1024 → Fin 64 → ℝ) (k : Fin 1024) :
    Ideal.sqrt (∑ x, ((u x : EReal) - (c k x : EReal)) * ((u x : EReal) - (c k x : EReal))) = (Real.sqrt (∑ x, (u x - c k x) * (u x - c k x)) : EReal) := by
  simp only [← EReal.coe_sub, ← EReal.coe_mul, coe_sum]
  rw [Ideal.sqrt_coe, if_neg (not_lt.mpr (Finset.sum_nonneg fun x _ => mul_self_nonneg _))]

end Cert.Proof.Eq

end
-- ==== Proof.Pos.lean ====
/-
  The positions: the kernel's masked minimum of a row of scores and the reference's fold of a row of distances name the
  same codebook row.
-/
module

public import proofs.«01_k».proof.Proof.Real

@[expose] public section

set_option maxRecDepth 8192

noncomputable section

namespace Cert.Proof.Eq

open Cert.KernelIdeal Cert.KernelIdeal.Gen Cert.Proof.Vq Cert.Proof.Ref
open Idealize.ShloMosaic Idealize.ShloMosaic.TcCoe

/-- What one row's fold runs over: the row's entries, each with its column. -/
theorem mem_fiber (d : S1024x1024.Idx → EReal) (i : Fin 1024) (q : EReal × BitVec 32) :
    q ∈ Host.argReduceFiber d (iotaInDim ReferenceIdeal.S1024x1024 32 1) ReferenceIdeal.Gen.reducesTo_S1024x1024_S1024_d1 (ix1 i)
      ↔ ∃ k : Fin 1024, q = (d (Idealize.ShloMosaic.ix2 i k), BitVec.ofNat 32 k.val) := by
  unfold Host.argReduceFiber
  constructor
  · intro h
    obtain ⟨n, hn, rfl⟩ := List.mem_map.mp h
    have hd := of_decide_eq_true (List.mem_filter.mp hn).2
    generalize S1024x1024.rowMajor.symm n = j at hd
    have h0 : j 0 = i := congrFun hd 0
    have hj : j = Idealize.ShloMosaic.ix2 i (j 1) := by
      funext a
      fin_cases a
      · exact h0
      · rfl
    refine ⟨j 1, ?_⟩
    conv_lhs => rw [hj]
    rfl
  · rintro ⟨k, rfl⟩
    refine List.mem_map.mpr ⟨ReferenceIdeal.S1024x1024.rowMajor (Idealize.ShloMosaic.ix2 i k), List.mem_filter.mpr ⟨List.mem_finRange _, decide_eq_true ?_⟩, ?_⟩
    · rw [Equiv.symm_apply_apply]
      funext a
      fin_cases a
      rfl
    · rw [Equiv.symm_apply_apply]
      rfl

/-- The reference's position in row `i`, the row's distances being real. -/
theorem pos_first (d : S1024x1024.Idx → EReal) (i p : Fin 1024) (hd : ∀ k, IsReal (d (Idealize.ShloMosaic.ix2 i k)))
    (hp : First (fun k => d (Idealize.ShloMosaic.ix2 i k)) p) : posR (F := Ideal) d (ix1 i) = BitVec.ofNat 32 p.val := by
  unfold posR
  rw [Ideal.argReduce_eq_reduce2, Host.reduce2_eq_foldl_fiber]
  have e : (constant (F := Ideal) ReferenceIdeal.S_ .f32 0x7F800000#32 (Shape.Idx.first ReferenceIdeal.Gen.h_S_) : EReal) = ⊤ := inf
  have e' : constantI ReferenceIdeal.S_ 32 0#32 (Shape.Idx.first ReferenceIdeal.Gen.h_S_) = 0#32 := rfl
  rw [e, e']
  refine foldl_first (s := fun k => d (Idealize.ShloMosaic.ix2 i k)) (fun k => ?_) _ (mem_fiber d i) hp
  obtain ⟨r, hr⟩ := hd k
  show d (Idealize.ShloMosaic.ix2 i k) < ⊤
  rw [hr]
  exact EReal.coe_lt_top r

/-- The masked minimum of row `i` of the scores, at either fill. -/
theorem masked_first (a : S1024x65.Idx → EReal) (cb : S1024x64.Idx → EReal) (i p : Fin 1024) (hp : First (fun k => scores (F := Ideal) a cb (Idealize.ShloMosaic.ix2 i k)) p)
    (w : BitVec 32) (hw : 1023 ≤ w.toNat) (hw' : w.toNat ≤ 1024) :
    ((Finset.univ : Finset (Fin 1024)).fold IntOp.minsi 2147483647#32 (fun k => Scalar.select
      (FloatOps.cmpf (F := Ideal) (φ := .f32) .oeq (scores (F := Ideal) a cb (Idealize.ShloMosaic.ix2 i k)) (reduceFold reduces_S1024x1024_S1024 FloatOps.minimumf (FloatOps.ofBits .f32 0x7F800000#32) (scores (F := Ideal) a cb) (ix1 i)))
      (BitVec.ofNat 32 k.val) w)).toNat = p.val := by
  refine fold_first hp _ ?_ w hw hw'
  have e : reduceFold reduces_S1024x1024_S1024 (FloatOps.minimumf (F := Ideal) (φ := .f32)) (FloatOps.ofBits .f32 0x7F800000#32) (scores (F := Ideal) a cb) (ix1 i)
      = (Finset.univ : Finset (Fin 1024)).fold min (Ideal.ofBits .f32 0x7F800000#32) fun k => scores (F := Ideal) a cb (Idealize.ShloMosaic.ix2 i k) := by
    pointwise
  rw [inf] at e
  exact e

/-- The kernel's index in row `i`. -/
theorem idx_first (a : S1024x65.Idx → EReal) (cb : S1024x64.Idx → EReal) (i p : Fin 1024) (hp : First (fun k => scores (F := Ideal) a cb (Idealize.ShloMosaic.ix2 i k)) p) :
    (k1_pay1 (F := Ideal) a cb (Idealize.ShloMosaic.ix2 i 0)).toNat = p.val := by
  rw [pay1_apply]
  exact masked_first a cb i p hp 1023#32 (by decide) (by decide)

end Cert.Proof.Eq

end
-- ==== Proof.Equal.lean ====
/-
  The value claim: run from the same finite inputs, the kernel and the reference end with the same two results.
-/
module

public import proofs.«01_k».proof.Proof.Lookup
public import proofs.«01_k».proof.Proof.Pos
public import proofs.«01_k».proof.Proof.Frames
public import proofs.«01_k».proof.Defs

@[expose] public section

set_option maxRecDepth 8192

noncomputable section

namespace Cert.Proof.Eq

open Cert.KernelIdeal Cert.KernelIdeal.Gen Cert.Proof.Vq Cert.Proof.Ref
open Idealize.ShloMosaic Idealize.ShloMosaic.TcCoe

/-- The precondition's side conditions. -/
theorem preFacts : Cert.Pre_finite.Facts where
  bcast_S_S1024x128 := by decide
  reducesTo_S1024x128_S_d0_1 := by decide
  h_S_ := by decide
  bcast_S_S1024x512 := by decide
  reducesTo_S1024x512_S_d0_1 := by decide
  bcast_S_S640x256 := by decide
  reducesTo_S640x256_S_d0_1 := by decide
  bcast_S_S256 := by decide
  reducesTo_S256_S_d0 := by decide
  bcast_S_S256x256 := by decide
  reducesTo_S256x256_S_d0_1 := by decide
  bcast_S_S256x64 := by decide
  reducesTo_S256x64_S_d0_1 := by decide
  bcast_S_S64 := by decide
  reducesTo_S64_S_d0 := by decide
  bcast_S_S1024x64 := by decide
  reducesTo_S1024x64_S_d0_1 := by decide

variable (V : Valuation τ sig (Elt Ideal))

/-- Every input holds real numbers. -/
structure RealArgs : Prop where
  a0 : ∀ j, IsReal ((V main_arg0 : S1024x128.Idx → EReal) j)
  a1 : ∀ j, IsReal ((V main_arg1 : S1024x512.Idx → EReal) j)
  a2 : ∀ j, IsReal ((V main_arg2 : S640x256.Idx → EReal) j)
  a3 : ∀ j, IsReal ((V main_arg3 : S256.Idx → EReal) j)
  a4 : ∀ j, IsReal ((V main_arg4 : S256x256.Idx → EReal) j)
  a5 : ∀ j, IsReal ((V main_arg5 : S256.Idx → EReal) j)
  a6 : ∀ j, IsReal ((V main_arg6 : S256x64.Idx → EReal) j)
  a7 : ∀ j, IsReal ((V main_arg7 : S64.Idx → EReal) j)
  a8 : ∀ j, IsReal ((V main_arg8 : S1024x64.Idx → EReal) j)

/-- The encoder's rows of the inputs `V` holds. -/
def enc : S1024x64.Idx → EReal :=
  encR (F := Ideal) (V main_arg0) (V main_arg1) (V main_arg2) (V main_arg3) (V main_arg4) (V main_arg5) (V main_arg6) (V main_arg7)

theorem uOf_eq : uOf (F := Ideal) (V3 V) = enc V := by
  unfold uOf enc
  rw [V3_of V main_arg0 (by decide), V3_of V main_arg1 (by decide), V3_of V main_arg2 (by decide), V3_of V main_arg4 (by decide),
    V3_of V main_arg6 (by decide), V3_v3, V3_v4, V3_v5]
  exact enc_eq _ _ _ _ _ _ _ _

/-- The kernel's first result is the reference's. -/
theorem first_result : (V7 V main_v6_0 : S1024x64.Idx → EReal) = enc V := (V7_v6_0 V).trans (uOf_eq V)

/-- The codebook. -/
def book : S1024x64.Idx → EReal := V main_arg8

/-- The encoder's rows as the launch scores them: times minus two, with a column of ones. -/
def aug : S1024x65.Idx → EReal :=
  k1_pay3 (F := Ideal) (V3 V main_arg0) (V3 V main_arg1) (V3 V main_arg2) (V3 V main_v3) (V3 V main_arg4) (V3 V main_v4) (V3 V main_arg6) (V3 V main_v5)

/-- The indices the launch leaves. -/
theorem idxOf_eq : idxOf (F := Ideal) (V3 V) = k1_pay1 (F := Ideal) (aug V) (book V) := by
  unfold idxOf aug book
  rw [V3_of V main_arg8 (by decide)]

/-- The scores they come from. -/
theorem scoresOf (i k : Fin 1024) : scores (F := Ideal) (aug V) (book V) (Idealize.ShloMosaic.ix2 i k)
    = ∑ x, enc V (Idealize.ShloMosaic.ix2 i x) * Ideal.ofBits .f32 3221225472#32 * book V (Idealize.ShloMosaic.ix2 k x)
        + ∑ _x : Fin 1, ∑ x, book V (Idealize.ShloMosaic.ix2 k x) * book V (Idealize.ShloMosaic.ix2 k x) := by
  rw [← uOf_eq]
  unfold aug uOf
  exact scores_apply _ _ _ _ _ _ _ _ _ i k

variable {V}

/-- The kernel's index in a row and the reference's position there are one, the inputs being real. -/
theorem same_pos (h : RealArgs V) (i : Fin 1024) : ∃ p : Fin 1024, (k1_pay1 (F := Ideal) (aug V) (book V) (Idealize.ShloMosaic.ix2 i 0)).toNat = p.val
    ∧ (posR (F := Ideal) (distR (F := Ideal) (enc V) (book V)) (ix1 i)).toNat = p.val := by
  have he : ∀ i l, IsReal (enc V (Idealize.ShloMosaic.ix2 i l)) := fun i l => enc_real _ _ _ _ _ _ _ _ h.a0 h.a1 h.a2 h.a3 h.a4 h.a5 h.a6 h.a7 i l
  choose u hu using he
  have hc : ∀ (k : Fin 1024) (l : Fin 64), IsReal (book V (Idealize.ShloMosaic.ix2 k l)) := fun k l => h.a8 _
  choose c hc using hc
  have hs : ∀ k, scores (F := Ideal) (aug V) (book V) (Idealize.ShloMosaic.ix2 i k) = (realScore (u i) c k : EReal) := by
    intro k
    rw [scoresOf]
    simp only [hu, hc]
    exact score_coe (u i) c k
  have hd : ∀ k, distR (F := Ideal) (enc V) (book V) (Idealize.ShloMosaic.ix2 i k) = (Real.sqrt (∑ x, (u i x - c k x) * (u i x - c k x)) : EReal) := by
    intro k
    rw [dist_apply]
    simp only [hu, hc]
    exact dist_coe (u i) c k
  generalize aug V = a at hs
  generalize distR (F := Ideal) (enc V) (book V) = d at hd
  generalize book V = b at hs
  obtain ⟨p, hp⟩ := First.exists fun k => scores (F := Ideal) a b (Idealize.ShloMosaic.ix2 i k)
  have hp' : First (fun k => d (Idealize.ShloMosaic.ix2 i k)) p := by
    refine hp.congr fun k q => ?_
    simp only [hs, hd, EReal.coe_lt_coe_iff]
    exact realScore_lt (u i) c k q
  refine ⟨p, idx_first a b i p hp, ?_⟩
  rw [pos_first d i p (fun k => ⟨_, hd k⟩) hp', BitVec.toNat_ofNat]
  have := p.isLt
  omega

/-- The kernel's second result is the reference's, the inputs being real. -/
theorem second_result (h : RealArgs V) :
    (V7 V main_v18 : S1024x64.Idx → EReal) = takeR (F := Ideal) (book V) (posR (F := Ideal) (distR (F := Ideal) (enc V) (book V))) := by
  funext j
  obtain ⟨i, l, rfl⟩ : ∃ (i : Fin 1024) (l : Fin 64), j = Idealize.ShloMosaic.ix2 i l := ⟨j 0, j 1, by
    funext a
    fin_cases a <;> rfl⟩
  obtain ⟨p, hk, hr⟩ := same_pos h i
  rw [← idxOf_eq] at hk
  have hlt := p.isLt
  have e : ∀ (r q : Fin 1024), r.val = q.val → book V (Idealize.ShloMosaic.ix2 r l) = book V (Idealize.ShloMosaic.ix2 q l) := by
    intro r q hrq
    rw [Fin.ext hrq]
  have hk' : (idxOf (F := Ideal) (V3 V) (Idealize.ShloMosaic.ix2 i 0)).toNat < 1024 := by rw [hk]; exact hlt
  have hr' : (posR (F := Ideal) (distR (F := Ideal) (enc V) (book V)) (ix1 i)).toNat < 1024 := by rw [hr]; exact hlt
  refine (v18_apply V i l hk').trans (Eq.trans ?_ (takeR_apply (F := Ideal) (book V) _ i l hr').symm)
  generalize (idxOf (F := Ideal) (V3 V) (Idealize.ShloMosaic.ix2 i 0)).toNat = x at hk hk' ⊢
  generalize (posR (F := Ideal) (distR (F := Ideal) (enc V) (book V)) (ix1 i)).toNat = y at hr hr' ⊢
  exact e ⟨x, hk'⟩ ⟨y, hr'⟩ (hk.trans hr.symm)

/-- The nine tests at once. -/
theorem tests (a0 : FVec Ideal S1024x128 .f32) (a1 : FVec Ideal S1024x512 .f32) (a2 : FVec Ideal S640x256 .f32) (a3 : FVec Ideal S256 .f32) (a4 : FVec Ideal S256x256 .f32)
    (a5 : FVec Ideal S256 .f32) (a6 : FVec Ideal S256x64 .f32) (a7 : FVec Ideal S64 .f32) (a8 : FVec Ideal S1024x64 .f32) :
    @Cert.Pre_finite.fn preFacts Ideal _ a0 a1 a2 a3 a4 a5 a6 a7 a8 =
    (Host.reduce IntOp.andi (cmpf .olt (Host.absf a0) (broadcastInDim S1024x128 ![] preFacts.bcast_S_S1024x128 (constant (F := Ideal) Cert.Pre_finite.S_ .f32 0x7F800000#32))) (constantI Cert.Pre_finite.S_ 1 1#1) preFacts.reducesTo_S1024x128_S_d0_1 preFacts.h_S_,
      Host.reduce IntOp.andi (cmpf .olt (Host.absf a1) (broadcastInDim S1024x512 ![] preFacts.bcast_S_S1024x512 (constant (F := Ideal) Cert.Pre_finite.S_ .f32 0x7F800000#32))) (constantI Cert.Pre_finite.S_ 1 1#1) preFacts.reducesTo_S1024x512_S_d0_1 preFacts.h_S_,
      Host.reduce IntOp.andi (cmpf .olt (Host.absf a2) (broadcastInDim S640x256 ![] preFacts.bcast_S_S640x256 (constant (F := Ideal) Cert.Pre_finite.S_ .f32 0x7F800000#32))) (constantI Cert.Pre_finite.S_ 1 1#1) preFacts.reducesTo_S640x256_S_d0_1 preFacts.h_S_,
      Host.reduce IntOp.andi (cmpf .olt (Host.absf a3) (broadcastInDim S256 ![] preFacts.bcast_S_S256 (constant (F := Ideal) Cert.Pre_finite.S_ .f32 0x7F800000#32))) (constantI Cert.Pre_finite.S_ 1 1#1) preFacts.reducesTo_S256_S_d0 preFacts.h_S_,
      Host.reduce IntOp.andi (cmpf .olt (Host.absf a4) (broadcastInDim S256x256 ![] preFacts.bcast_S_S256x256 (constant (F := Ideal) Cert.Pre_finite.S_ .f32 0x7F800000#32))) (constantI Cert.Pre_finite.S_ 1 1#1) preFacts.reducesTo_S256x256_S_d0_1 preFacts.h_S_,
      Host.reduce IntOp.andi (cmpf .olt (Host.absf a5) (broadcastInDim S256 ![] preFacts.bcast_S_S256 (constant (F := Ideal) Cert.Pre_finite.S_ .f32 0x7F800000#32))) (constantI Cert.Pre_finite.S_ 1 1#1) preFacts.reducesTo_S256_S_d0 preFacts.h_S_,
      Host.reduce IntOp.andi (cmpf .olt (Host.absf a6) (broadcastInDim S256x64 ![] preFacts.bcast_S_S256x64 (constant (F := Ideal) Cert.Pre_finite.S_ .f32 0x7F800000#32))) (constantI Cert.Pre_finite.S_ 1 1#1) preFacts.reducesTo_S256x64_S_d0_1 preFacts.h_S_,
      Host.reduce IntOp.andi (cmpf .olt (Host.absf a7) (broadcastInDim S64 ![] preFacts.bcast_S_S64 (constant (F := Ideal) Cert.Pre_finite.S_ .f32 0x7F800000#32))) (constantI Cert.Pre_finite.S_ 1 1#1) preFacts.reducesTo_S64_S_d0 preFacts.h_S_,
      Host.reduce IntOp.andi (cmpf .olt (Host.absf a8) (broadcastInDim S1024x64 ![] preFacts.bcast_S_S1024x64 (constant (F := Ideal) Cert.Pre_finite.S_ .f32 0x7F800000#32))) (constantI Cert.Pre_finite.S_ 1 1#1) preFacts.reducesTo_S1024x64_S_d0_1 preFacts.h_S_) := rfl

/-- The precondition makes every input real. -/
theorem real_of_pre {m : (ℓ : Loc nD τ sig) → Buf (Elt Ideal) ℓ} (h : Cert.Pre_KernelIdeal_finite (hPre_finite := preFacts) m) (c : Dev nD) : RealArgs (W0 m c) := by
  have hc := h c
  simp only [tests] at hc
  obtain ⟨h0, h1, h2, h3, h4, h5, h6, h7, h8⟩ := hc
  exact {
    a0 := fun j => real_of_test (m ((c.tc : Thread nD τ).loc main_arg0)) preFacts.bcast_S_S1024x128 preFacts.reducesTo_S1024x128_S_d0_1 preFacts.h_S_ h0 j
    a1 := fun j => real_of_test (m ((c.tc : Thread nD τ).loc main_arg1)) preFacts.bcast_S_S1024x512 preFacts.reducesTo_S1024x512_S_d0_1 preFacts.h_S_ h1 j
    a2 := fun j => real_of_test (m ((c.tc : Thread nD τ).loc main_arg2)) preFacts.bcast_S_S640x256 preFacts.reducesTo_S640x256_S_d0_1 preFacts.h_S_ h2 j
    a3 := fun j => real_of_test (m ((c.tc : Thread nD τ).loc main_arg3)) preFacts.bcast_S_S256 preFacts.reducesTo_S256_S_d0 preFacts.h_S_ h3 j
    a4 := fun j => real_of_test (m ((c.tc : Thread nD τ).loc main_arg4)) preFacts.bcast_S_S256x256 preFacts.reducesTo_S256x256_S_d0_1 preFacts.h_S_ h4 j
    a5 := fun j => real_of_test (m ((c.tc : Thread nD τ).loc main_arg5)) preFacts.bcast_S_S256 preFacts.reducesTo_S256_S_d0 preFacts.h_S_ h5 j
    a6 := fun j => real_of_test (m ((c.tc : Thread nD τ).loc main_arg6)) preFacts.bcast_S_S256x64 preFacts.reducesTo_S256x64_S_d0_1 preFacts.h_S_ h6 j
    a7 := fun j => real_of_test (m ((c.tc : Thread nD τ).loc main_arg7)) preFacts.bcast_S_S64 preFacts.reducesTo_S64_S_d0 preFacts.h_S_ h7 j
    a8 := fun j => real_of_test (m ((c.tc : Thread nD τ).loc main_arg8)) preFacts.bcast_S_S1024x64 preFacts.reducesTo_S1024x64_S_d0_1 preFacts.h_S_ h8 j }

theorem algebraic : Cert.algebraic_KernelIdeal_ReferenceIdeal_pre_finite (hKernelIdeal := Cert.KernelIdeal.Gen.facts) (hReferenceIdeal := Cert.ReferenceIdeal.Gen.facts) (hPre_finite := preFacts) := by
  intro m g m' g' hpre hargs
  refine ⟨fun c => V7 (W0 m c) main_v6_0, fun c => V7 (W0 m c) main_v18, (θ_run _ _ _).mono (fun r h c => ⟨Vq.QC_read h c main_v6_0 (by decide), Vq.QC_read h c main_v18 (by decide), Vq.QC_args h c⟩) (run_main m g), ?_⟩
  refine (θ_run _ _ _).mono (fun r h c => ?_) (run_line m' g')
  obtain ⟨e0, e1, e2, e3, e4, e5, e6, e7, e8⟩ := hargs c
  have he : encR (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2))
      (m' ((c.tc : Thread _ _).loc Cert.ReferenceIdeal.main_arg3)) (m' ((c.tc : Thread _ _).loc Cert.ReferenceIdeal.main_arg4)) (m' ((c.tc : Thread _ _).loc Cert.ReferenceIdeal.main_arg5))
      (m' ((c.tc : Thread _ _).loc Cert.ReferenceIdeal.main_arg6)) (m' ((c.tc : Thread _ _).loc Cert.ReferenceIdeal.main_arg7)) = enc (W0 m c) := by
    rw [e0, e1, e2, e3, e4, e5, e6, e7]
    rfl
  refine ⟨?_, ?_, ?_⟩
  · refine (h c Cert.ReferenceIdeal.main_v14).trans ((line_v14 _).trans ?_)
    exact he.trans (first_result (W0 m c)).symm
  · refine (h c Cert.ReferenceIdeal.main_v22).trans ((line_v22 _).trans ?_)
    refine Eq.trans ?_ (second_result (real_of_pre hpre c)).symm
    show takeR (F := Ideal) (m' ((c.tc : Thread _ _).loc Cert.ReferenceIdeal.main_arg8)) (posR (F := Ideal) (distR (F := Ideal) (encR (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2))
      (m' ((c.tc : Thread _ _).loc Cert.ReferenceIdeal.main_arg3)) (m' ((c.tc : Thread _ _).loc Cert.ReferenceIdeal.main_arg4)) (m' ((c.tc : Thread _ _).loc Cert.ReferenceIdeal.main_arg5))
      (m' ((c.tc : Thread _ _).loc Cert.ReferenceIdeal.main_arg6)) (m' ((c.tc : Thread _ _).loc Cert.ReferenceIdeal.main_arg7))) (m' ((c.tc : Thread _ _).loc Cert.ReferenceIdeal.main_arg8)))) = _
    rw [he, e8]
    rfl
  · exact ⟨Ref.arg_read h c _ (by decide), Ref.arg_read h c _ (by decide), Ref.arg_read h c _ (by decide), Ref.arg_read h c _ (by decide), Ref.arg_read h c _ (by decide),
      Ref.arg_read h c _ (by decide), Ref.arg_read h c _ (by decide), Ref.arg_read h c _ (by decide), Ref.arg_read h c _ (by decide)⟩

end Cert.Proof.Eq

end
-- ==== Proof.Version.lean ====
/-
  The version as published, its fill being 1024: over the extended reals it is the kernel, since some score of a row always
  is the row's least one. So what holds of the kernel there holds of it.
-/
module

public import proofs.«01_k».proof.Proof.Equal
public import proofs.«01_k».proof.Proof.Gen.VersionIdeal
public import proofs.«01_k».proof.Proof.Gen.VersionIdeal.Skeleton

@[expose] public section

set_option maxRecDepth 4096

noncomputable section

namespace Cert.Proof.Eq

open Cert.KernelIdeal Cert.KernelIdeal.Gen Cert.Proof.Vq
open Idealize.ShloMosaic Idealize.ShloMosaic.TcCoe

/-- The index the version keeps of row `i`: the kernel's, `1024` standing where the kernel has `1023`. -/
theorem version_pay1_apply {F : FTy → Type} [FloatOps F] (a : FVec F S1024x65 .f32) (b : Vec F S1024x64 .f32) (i : S1024x1.Idx) :
    Cert.VersionIdeal.Gen.k1_pay1 a b i = (Finset.univ : Finset (Fin 1024)).fold IntOp.minsi 2147483647#32 (fun k => Scalar.select
      (FloatOps.cmpf .oeq (scores a b (Idealize.ShloMosaic.ix2 (i 0) k)) (reduceFold reduces_S1024x1024_S1024 FloatOps.minimumf (FloatOps.ofBits .f32 0x7F800000#32) (scores a b) (ix1 (i 0))))
      (BitVec.ofNat 32 k.val) 1024#32) := by
  unfold Cert.VersionIdeal.Gen.k1_pay1
  simp only [pointwise, List.foldl_cons, List.foldl_nil, Nat.zero_mul, Nat.zero_add]
  rfl

/-- The two programs keep the same indices. -/
theorem pay1_eq : Cert.VersionIdeal.Gen.k1_pay1 (F := Ideal) = k1_pay1 (F := Ideal) := by
  funext a b i
  obtain ⟨p, hp⟩ := First.exists fun k => scores (F := Ideal) a b (Idealize.ShloMosaic.ix2 (i 0) k)
  apply BitVec.eq_of_toNat_eq
  rw [version_pay1_apply, pay1_apply]
  exact (masked_first a b (i 0) p hp 1024#32 (by decide) (by decide)).trans (masked_first a b (i 0) p hp 1023#32 (by decide) (by decide)).symm

/-- The TensorCore's bodies are one. -/
theorem body_eq : Cert.VersionIdeal.cc1__vq_body (F := Ideal) = Cert.KernelIdeal.cc1__vq_body (F := Ideal) := by
  rw [Cert.VersionIdeal.Gen.cc1__vq_body_eq_skeleton]
  unfold Cert.VersionIdeal.Gen.cc1__vq_body_skel
  rw [pay1_eq]
  rfl

/-- So are all bodies, -/
theorem version_bodies_eq : ∀ p l a, Cert.VersionIdeal.defs₀ (F := Ideal) p l a = Cert.KernelIdeal.defs₀ (F := Ideal) p l a
  | .scVector _ _, 0, _ => rfl
  | .scVector _ _, 1, _ => rfl
  | .scVector _ _, 2, _ => rfl
  | .tc, 0, a => Eq.trans (b := (Idealize.SL.Sem.Prog.op (TpuEff.call (0 : Fin 3) a) Idealize.SL.Sem.Prog.ret : Idealize.SL.Sem.Prog (TpuEff nD τ sig (Elt Ideal) Λ₀ .tc) _)) rfl rfl
  | .tc, 1, (t, s) => by
    unfold Cert.VersionIdeal.defs₀ Cert.KernelIdeal.defs₀
    dsimp only
    rw [body_eq]
    rfl
  | .tc, 2, a => Eq.trans (b := (Idealize.SL.Sem.Prog.op (TpuEff.call (2 : Fin 3) a) Idealize.SL.Sem.Prog.ret : Idealize.SL.Sem.Prog (TpuEff nD τ sig (Elt Ideal) Λ₀ .tc) _)) rfl rfl
  | .scScalar _, 0, _ => rfl
  | .scScalar _, 1, _ => rfl
  | .scScalar _, 2, _ => rfl

/-- and the two programs. -/
theorem version_defs_eq : Cert.VersionIdeal.defs (F := Ideal) = Cert.KernelIdeal.defs (F := Ideal) :=
  congrArg (fun D => (Cert.KernelIdeal.sc (F := Ideal)).defs (Pipeline.defs (Cert.KernelIdeal.pcfgs (F := Ideal)) D))
    (funext fun p => funext fun l => funext fun a => version_bodies_eq p l a)

theorem frame_version : Cert.quiescent_VersionIdeal := fun m ρ _ => by
  rw [version_defs_eq]
  exact frame_run (F := Ideal) m ρ

theorem algebraic_version : Cert.algebraic_VersionIdeal_ReferenceIdeal_pre_finite (hVersionIdeal := Cert.VersionIdeal.Gen.facts) (hReferenceIdeal := Cert.ReferenceIdeal.Gen.facts) (hPre_finite := preFacts) := by
  intro m g m' g' hpre hargs
  rw [version_defs_eq]
  exact algebraic m g m' g' hpre hargs

end Cert.Proof.Eq

end
-- ==== Proof.lean ====
/-
  The certificate's claim: the frames of the kernel and of the reference, the idealised kernel being the kernel as it
  stands, and the equality of the two results over the extended reals, from finite inputs; and over the extended reals the
  frame and the results of the version as published.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.VersionIdeal
public import proofs.«01_k».proof.Proof.Gen.VersionIdeal.Skeleton
public import proofs.«01_k».proof.Proof.Gen.VersionIdeal.Launch
public import proofs.«01_k».proof.Proof.Gen.VersionIdeal.Points
public import proofs.«01_k».proof.Proof.Gen.ReferenceIdeal
public import proofs.«01_k».proof.Proof.Frames
public import proofs.«01_k».proof.Proof.Equal
public import proofs.«01_k».proof.Proof.Version
public import Idealize.ShloMosaic.Adequacy
public import Idealize.ShloMosaic.Init

@[expose] public section

noncomputable section

namespace Cert.Proof

open Idealize.ShloMosaic Idealize.SL.Sem

/-- Every claim stated. The frames under the finiteness precondition are the frames that hold without it. -/
theorem claim : Cert.Claim :=
  ⟨Cert.Kernel.Gen.facts, Cert.KernelIdeal.Gen.facts, Cert.ReferenceIdeal.Gen.facts, Cert.VersionIdeal.Gen.facts, Eq.preFacts,
    Vq.frame_kernel,
    Vq.frame_ideal,
    fun m g _ => Vq.frame_ideal m g trivial,
    Ref.frame_ref,
    fun m g _ => Ref.frame_ref m g trivial,
    Eq.frame_version,
    fun m g _ => Eq.frame_version m g trivial,
    trivial,
    Eq.algebraic,
    Eq.algebraic_version⟩

end Cert.Proof

end
